-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v2_1)) (v4 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v2_1) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_v38) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S4x256x8x16x16 : Shape := ⟨5, ![4, 256, 8, 16, 16]⟩
abbrev S1024x256 : Shape := ⟨2, ![1024, 256]⟩
abbrev S4x8x16x16x256 : Shape := ⟨5, ![4, 8, 16, 16, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1024 : Shape := ⟨2, ![1, 1024]⟩
abbrev S8192x1024 : Shape := ⟨2, ![8192, 1024]⟩
abbrev S256x1024 : Shape := ⟨2, ![256, 1024]⟩

class Facts : Prop where
  transposes_S4x256x8x16x16_S4x8x16x16x256_0_2_3_4_1 : S4x256x8x16x16.Transposes [0, 2, 3, 4, 1] S4x8x16x16x256
  shapeCasts_S4x8x16x16x256_S8192x256 : S4x8x16x16x256.ShapeCasts S8192x256
  reducesTo_S8192x256_S8192_d1 : S8192x256.ReducesTo [1] S8192
  h_S_ : 0 < S_.numel
  bcast_S8192_S8192x1_0 : S8192.BroadcastsInDim S8192x1 (![0] : Fin 1 → Fin S8192x1.rank)
  reducesTo_S1024x256_S1024_d1 : S1024x256.ReducesTo [1] S1024
  bcast_S1024_S1x1024_1 : S1024.BroadcastsInDim S1x1024 (![1] : Fin 1 → Fin S1x1024.rank)
  bcast_S8192x1_S8192x1024_0_1 : S8192x1.BroadcastsInDim S8192x1024 (![0, 1] : Fin 2 → Fin S8192x1024.rank)
  bcast_S1x1024_S8192x1024_0_1 : S1x1024.BroadcastsInDim S8192x1024 (![0, 1] : Fin 2 → Fin S8192x1024.rank)
  transposes_S1024x256_S256x1024_1_0 : S1024x256.Transposes [1, 0] S256x1024
  bcast_S_S8192x1024 : S_.BroadcastsInDim S8192x1024 (![] : Fin 0 → Fin S8192x1024.rank)
  reducesTo_S8192x1024_S8192_d1 : S8192x1024.ReducesTo [1] S8192
  natLt_1_32 : 1 < 32
  bcast_S_S8192 : S_.BroadcastsInDim S8192 (![] : Fin 0 → Fin S8192.rank)
  dot_S8192x256_S256x1024_S8192x1024_1_0_0_1_n_n_wf : DotDims.WF S8192x256 S256x1024 S8192x1024 [1] [0] [0] [1] [] []

variable [Facts]

def dot_S8192x256_S256x1024_S8192x1024_1_0_0_1_n_n : DotDims S8192x256 S256x1024 S8192x1024 where
  lhsContracting := [1]
  rhsContracting := [0]
  lhsNonContracting := [0]
  rhsNonContracting := [1]
  lhsBatch := []
  rhsBatch := []
  wf := dot_S8192x256_S256x1024_S8192x1024_1_0_0_1_n_n_wf
def fn_part1 {F : FTy → Type} [FloatOps F] (main_v19 : IVec S8192x1024 1) : IVec S8192 1 :=
  let main_v20 : IVec S8192x1024 32 := (extui 32 · natLt_1_32) main_v19
  let main_c : IVec S_ 32 := constantI S_ 32 0#32
  let main_v21 : IVec S8192 32 := (fun x v => Host.reduce IntOp.addi x v reducesTo_S8192x1024_S8192_d1 h_S_) main_v20 main_c
  let main_c_3 : IVec S_ 32 := constantI S_ 32 1#32
  let main_v22 : IVec S8192 32 := broadcastInDim S8192 ![] bcast_S_S8192 main_c_3
  let main_v23 : IVec S8192 1 := cmpi .eq main_v21 main_v22
  main_v23

def fn {F : FTy → Type} [FloatOps F] (main_arg0 : FVec F S4x256x8x16x16 .f32) (main_arg1 : FVec F S1024x256 .f32) : IVec S8192 1 :=
  let main_v0 : FVec F S4x8x16x16x256 .f32 := (transpose S4x8x16x16x256 [0, 2, 3, 4, 1] · transposes_S4x256x8x16x16_S4x8x16x16x256_0_2_3_4_1) main_arg0
  let main_v1 : FVec F S8192x256 .f32 := shapeCast S8192x256 main_v0 shapeCasts_S4x8x16x16x256_S8192x256
  let main_v2 : FVec F S8192x256 .f32 := mulf main_v1 main_v1
  let main_cst : FVec F S_ .f32 := constant S_ .f32 0x00000000#32
  let main_v3 : FVec F S8192 .f32 := (fun x v => Host.reduceAdd x v reducesTo_S8192x256_S8192_d1 h_S_) main_v2 main_cst
  let main_v4 : FVec F S8192x1 .f32 := broadcastInDim S8192x1 ![0] bcast_S8192_S8192x1_0 main_v3
  let main_v5 : FVec F S1024x256 .f32 := mulf main_arg1 main_arg1
  let main_cst_0 : FVec F S_ .f32 := constant S_ .f32 0x00000000#32
  let main_v6 : FVec F S1024 .f32 := (fun x v => Host.reduceAdd x v reducesTo_S1024x256_S1024_d1 h_S_) main_v5 main_cst_0
  let main_v7 : FVec F S1x1024 .f32 := broadcastInDim S1x1024 ![1] bcast_S1024_S1x1024_1 main_v6
  let main_v8 : FVec F S8192x1024 .f32 := broadcastInDim S8192x1024 ![0, 1] bcast_S8192x1_S8192x1024_0_1 main_v4
  let main_v9 : FVec F S8192x1024 .f32 := broadcastInDim S8192x1024 ![0, 1] bcast_S1x1024_S8192x1024_0_1 main_v7
  let main_v10 : FVec F S8192x1024 .f32 := addf main_v8 main_v9
  let main_v11 : FVec F S256x1024 .f32 := (transpose S256x1024 [1, 0] · transposes_S1024x256_S256x1024_1_0) main_arg1
  let main_v12 : FVec F S8192x1024 .f32 := (fun l r => Host.dotGeneral dot_S8192x256_S256x1024_S8192x1024_1_0_0_1_n_n none l r) main_v1 main_v11
  let main_cst_1 : FVec F S_ .f32 := constant S_ .f32 0x40000000#32
  let main_v13 : FVec F S8192x1024 .f32 := broadcastInDim S8192x1024 ![] bcast_S_S8192x1024 main_cst_1
  let main_v14 : FVec F S8192x1024 .f32 := mulf main_v13 main_v12
  let main_v15 : FVec F S8192x1024 .f32 := subf main_v10 main_v14
  let main_cst_2 : FVec F S_ .f32 := constant S_ .f32 0x7F800000#32
  let main_v16 : FVec F S8192 .f32 := (fun x v => Host.reduce FloatOps.minimumf x v reducesTo_S8192x1024_S8192_d1 h_S_) main_v15 main_cst_2
  let main_v17 : FVec F S8192x1 .f32 := broadcastInDim S8192x1 ![0] bcast_S8192_S8192x1_0 main_v16
  let main_v18 : FVec F S8192x1024 .f32 := broadcastInDim S8192x1024 ![0, 1] bcast_S8192x1_S8192x1024_0_1 main_v17
  let main_v19 : IVec S8192x1024 1 := cmpf .oeq main_v15 main_v18
  fn_part1 (F := F) main_v19
-- ==== Kernel.lean ====
abbrev S4x256x8x16x16 : Shape := ⟨5, ![4, 256, 8, 16, 16]⟩
abbrev S1024x256 : Shape := ⟨2, ![1024, 256]⟩
abbrev S4x8x16x16x256 : Shape := ⟨5, ![4, 8, 16, 16, 256]⟩
abbrev S8192x256 : Shape := ⟨2, ![8192, 256]⟩
abbrev S8192x1024 : Shape := ⟨2, ![8192, 1024]⟩
abbrev S4x1x2048 : Shape := ⟨3, ![4, 1, 2048]⟩
abbrev S1x1 : Shape := ⟨2, ![1, 1]⟩
abbrev S2048x256 : Shape := ⟨2, ![2048, 256]⟩
abbrev S2048x1024 : Shape := ⟨2, ![2048, 1024]⟩
abbrev S1x1x2048 : Shape := ⟨3, ![1, 1, 2048]⟩
abbrev S1x1024 : Shape := ⟨2, ![1, 1024]⟩
abbrev S1 : Shape := ⟨1, ![1]⟩
abbrev S1024x1 : Shape := ⟨2, ![1024, 1]⟩
abbrev S1024 : Shape := ⟨1, ![1024]⟩
abbrev S2048 : Shape := ⟨1, ![2048]⟩
abbrev S2048x1 : Shape := ⟨2, ![2048, 1]⟩
abbrev S1024x2048 : Shape := ⟨2, ![1024, 2048]⟩
abbrev S1x2048 : Shape := ⟨2, ![1, 2048]⟩
abbrev S1x2048x256 : Shape := ⟨3, ![1, 2048, 256]⟩
abbrev S1x1x1 : Shape := ⟨3, ![1, 1, 1]⟩
abbrev S1x1x1024 : Shape := ⟨3, ![1, 1, 1024]⟩
abbrev S_ : Shape := ⟨0, ![]⟩
abbrev S8192x1 : Shape := ⟨2, ![8192, 1]⟩

abbrev nBuf : Space → Nat
  | .hbm => 14
  | .vmem => 11
  | .smem => 3
  | _ => 0

abbrev bufTy : (tb : Table) → Fin (tcTables nBuf tb) → BufTy
  | .hbm, ⟨0, _⟩ => ⟨S4x256x8x16x16, .f32⟩
  | .hbm, ⟨1, _⟩ => ⟨S1024x256, .f32⟩
  | .hbm, ⟨2, _⟩ => ⟨S4x8x16x16x256, .f32⟩
  | .hbm, ⟨3, _⟩ => ⟨S8192x256, .f32⟩
  | .hbm, ⟨4, _⟩ => ⟨S8192x256, .f32⟩
  | .hbm, ⟨5, _⟩ => ⟨S8192x1024, .f32⟩
  | .hbm, ⟨6, _⟩ => ⟨S4x1x2048, .i32⟩
  | .hbm, ⟨7, _⟩ => ⟨S1x1, .f32⟩
  | .hbm, ⟨8, _⟩ => ⟨S1x1, .f32⟩
  | .hbm, ⟨9, _⟩ => ⟨S4x8x16x16x256, .f32⟩
  | .hbm, ⟨10, _⟩ => ⟨S4x256x8x16x16, .f32⟩
  | .hbm, ⟨11, _⟩ => ⟨S_, .f32⟩
  | .hbm, ⟨12, _⟩ => ⟨S_, .f32⟩
  | .hbm, ⟨13, _⟩ => ⟨S8192x1, .i32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S2048x256, .f32⟩
  | .local _ .vmem, ⟨4, _⟩ => ⟨S2048x256, .f32⟩
  | .local _ .vmem, ⟨5, _⟩ => ⟨S2048x1024, .f32⟩
  | .local _ .vmem, ⟨6, _⟩ => ⟨S2048x1024, .f32⟩
  | .local _ .vmem, ⟨7, _⟩ => ⟨S1x1x2048, .i32⟩
  | .local _ .vmem, ⟨8, _⟩ => ⟨S1x1x2048, .i32⟩
  | .local _ .vmem, ⟨9, _⟩ => ⟨S1x1024, .f32⟩
  | .local _ .vmem, ⟨10, _⟩ => ⟨S1024x1, .f32⟩
  | .local _ .smem, ⟨0, _⟩ => ⟨S1x1, .f32⟩
  | .local _ .smem, ⟨1, _⟩ => ⟨S1x1, .f32⟩
  | .local _ .smem, ⟨2, _⟩ => ⟨S1, .f32⟩
  | _, _ => ⟨S4x256x8x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch2 : Ref sig .tc := ⟨.vmem, 10, rfl⟩
abbrev cc0_stg5_0 : Ref sig .tc := ⟨.smem, 0, rfl⟩
abbrev cc0_stg6_0 : Ref sig .tc := ⟨.smem, 1, rfl⟩
abbrev cc0_scratch1 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v50 : BitVec 1 := Scalar.cmpi .eq arg0 c3_i32
  let v51 : BitVec 32 := Scalar.extui v50
  let c0_i32_24 : BitVec 32 := 0#32
  let v52 : BitVec 1 := Scalar.cmpi .ne v51 c0_i32_24
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4x256x8x16x16 : Shape := ⟨5, ![4, 256, 8, 16, 16]⟩
abbrev S1024x256 : Shape := ⟨2, ![1024, 256]⟩
abbrev S4x8x16x16x256 : Shape := ⟨5, ![4, 8, 16, 16, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1024 : Shape := ⟨2, ![1, 1024]⟩
abbrev S8192x1024 : Shape := ⟨2, ![8192, 1024]⟩
abbrev S256x1024 : Shape := ⟨2, ![256, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4x256x8x16x16, .f32⟩
  | .hbm, ⟨1, _⟩ => ⟨S1024x256, .f32⟩
  | .hbm, ⟨2, _⟩ => ⟨S4x8x16x16x256, .f32⟩
  | .hbm, ⟨3, _⟩ => ⟨S8192x256, .f32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S1024x256, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S256x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .i32⟩
  | .hbm, ⟨22, _⟩ => ⟨S_, .f32⟩
  | .hbm, ⟨23, _⟩ => ⟨S_, .i32⟩
  | .hbm, ⟨24, _⟩ => ⟨S8192, .f32⟩
  | .hbm, ⟨25, _⟩ => ⟨S8192, .i32⟩
  | .hbm, ⟨26, _⟩ => ⟨S8192x1, .i32⟩
  | .hbm, ⟨27, _⟩ => ⟨S1x1024, .i32⟩
  | .hbm, ⟨28, _⟩ => ⟨S8192x1024, .i32⟩
  | .hbm, ⟨29, _⟩ => ⟨S8192x1024, .i32⟩
  | .hbm, ⟨30, _⟩ => ⟨S8192x1024, .i1⟩
  | .hbm, ⟨31, _⟩ => ⟨S8192x1024, .f32⟩
  | .hbm, ⟨32, _⟩ => ⟨S8192x256, .f32⟩
  | .hbm, ⟨33, _⟩ => ⟨S4x8x16x16x256, .f32⟩
  | .hbm, ⟨34, _⟩ => ⟨S4x8x16x16x256, .f32⟩
  | .hbm, ⟨35, _⟩ => ⟨S4x8x16x16x256, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4x8x16x16x256, .f32⟩
  | .hbm, ⟨43, _⟩ => ⟨S4x8x16x16x256, .f32⟩
  | .hbm, ⟨44, _⟩ => ⟨S_, .f32⟩
  | .hbm, ⟨45, _⟩ => ⟨S1024, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S1024, .f32⟩
  | .hbm, ⟨53, _⟩ => ⟨S1024, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S4x256x8x16x16, .f32⟩
  | .hbm, ⟨59, _⟩ => ⟨S8192x1, .i32⟩
  | _, _ => ⟨S4x256x8x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Proof.Argmin.lean ====
/-
  The number of the least entry of a row, the first one where several are least. Both programs compute it: the kernel by
  one operation along an axis of its block, the reference by a fold over pairs of a value and its number.
-/
module

public import proofs.«01_k».proof.Proof.Gen.ReferenceIdeal
public import Idealize.ShloMosaic.PureOps.Ideal.Laws
public import Idealize.ShloMosaic.PureOps.Reduce

@[expose] public section

noncomputable section

namespace Cert.Argmin

open Idealize.ShloMosaic

/-- `k` is the first place at which `f` is least. -/
def IsFirst {n : Nat} (f : Fin n → EReal) (k : Fin n) : Prop :=
  (∀ k', f k ≤ f k') ∧ ∀ k', f k' = f k → k ≤ k'

theorem exists_isFirst {n : Nat} (f : Fin (n + 1) → EReal) : ∃ k, IsFirst f k := by
  obtain ⟨k0, -, hk0⟩ := Finset.exists_min_image (Finset.univ : Finset (Fin (n + 1))) f ⟨0, Finset.mem_univ _⟩
  obtain ⟨k, hk, hmin⟩ := Finset.exists_min_image
    ((Finset.univ : Finset (Fin (n + 1))).filter fun k => f k = f k0) id ⟨k0, by simp⟩
  have hk : f k = f k0 := by simpa using hk
  exact ⟨k, fun k' => hk ▸ hk0 k' (Finset.mem_univ _), fun k' h => hmin k' (by simp [h, hk])⟩

/-- The first place at which `f` is least. -/
def firstMin {n : Nat} (f : Fin (n + 1) → EReal) : Fin (n + 1) := (exists_isFirst f).choose

theorem firstMin_spec {n : Nat} (f : Fin (n + 1) → EReal) : IsFirst f (firstMin f) := (exists_isFirst f).choose_spec

theorem IsFirst.eq_firstMin {n : Nat} {f : Fin (n + 1) → EReal} {k : Fin (n + 1)} (h : IsFirst f k) : k = firstMin f := by
  have h' := firstMin_spec f
  have e : f k = f (firstMin f) := le_antisymm (h.1 _) (h'.1 _)
  exact le_antisymm (h.2 _ e.symm) (h'.2 _ e)

/-! ## The kernel's operation -/

theorem reduceIndex_eq {s t : Shape} {a : Fin s.rank} (h : s.Reduces [a] t) (x : s.Idx → EReal) (j : t.Idx)
    {n : Nat} (hn : s.size a = n + 1) :
    Ideal.reduceIndex .argMin a h x j
      = BitVec.ofNat 32 (firstMin fun k : Fin (n + 1) => x (h.lift j (k.cast hn.symm))).val := by
  classical
  set f : Fin (n + 1) → EReal := fun k => x (h.lift j (k.cast hn.symm)) with hf
  have hx : ∀ i : s.Idx, h.drop i = j → x i = f ((i a).cast hn) := by
    rintro i rfl
    simp only [hf, Fin.cast_cast, Fin.cast_eq_self]
    rw [h.lift_drop]
  have hs := firstMin_spec f
  unfold Ideal.reduceIndex
  simp only [reduceCtorEq, if_false]
  congr 1
  have key : (((Finset.univ.filter fun i : s.Idx => h.drop i = j).filter fun i =>
      ∀ i' ∈ Finset.univ.filter (fun i : s.Idx => h.drop i = j), ¬ x i' < x i).image fun i => (i a).val).min
      = ((firstMin f).val : WithTop ℕ) := by
    refine le_antisymm (Finset.min_le (Finset.mem_image.mpr ⟨h.lift j ((firstMin f).cast hn.symm), ?_, ?_⟩)) (Finset.le_min ?_)
    · simp only [Finset.mem_filter, Finset.mem_univ, true_and, h.drop_lift, not_lt]
      intro i hi
      rw [hx i hi]
      exact hs.1 _
    · simp [h.lift_val, Shape.Reduces.liftVal]
    · simp only [Finset.mem_image, Finset.mem_filter, Finset.mem_univ, true_and, not_lt]
      rintro v ⟨i, ⟨hi, hle⟩, rfl⟩
      have e : f ((i a).cast hn) = f (firstMin f) := by
        refine le_antisymm ?_ (hs.1 _)
        have := hle (h.lift j ((firstMin f).cast hn.symm)) (h.drop_lift _ _)
        rwa [hx i hi] at this
      have := hs.2 _ e
      exact WithTop.coe_le_coe.mpr (show (firstMin f).val ≤ (i a).val from this)
  rw [key]
  rfl

/-! ## The reference's fold -/

/-- Pairs in order: by value, then by number. -/
def Le (p q : EReal × BitVec 32) : Prop := p.1 < q.1 ∨ (p.1 = q.1 ∧ p.2.toInt ≤ q.2.toInt)

theorem Le.refl (p) : Le p p := .inr ⟨rfl, le_refl _⟩
theorem Le.trans {p q r} (h : Le p q) (h' : Le q r) : Le p r := by
  rcases h with h | ⟨h, i⟩ <;> rcases h' with h' | ⟨h', i'⟩
  · exact .inl (h.trans h')
  · exact .inl (h' ▸ h)
  · exact .inl (h ▸ h')
  · exact .inr ⟨h.trans h', i.trans i'⟩

theorem foldl_least (f : EReal × BitVec 32 → EReal × BitVec 32 → EReal × BitVec 32)
    (hf : ∀ a b, (f a b = a ∨ f a b = b) ∧ Le (f a b) a ∧ Le (f a b) b) (l : List (EReal × BitVec 32)) :
    ∀ p, (l.foldl f p = p ∨ l.foldl f p ∈ l) ∧ Le (l.foldl f p) p ∧ ∀ q ∈ l, Le (l.foldl f p) q := by
  induction l with
  | nil => intro p; exact ⟨.inl rfl, Le.refl _, by simp⟩
  | cons b l ih =>
    intro p
    obtain ⟨h1, h2, h3⟩ := ih (f p b)
    obtain ⟨g1, g2, g3⟩ := hf p b
    rw [List.foldl_cons]
    refine ⟨?_, h2.trans g2, ?_⟩
    · rcases h1 with h1 | h1
      · rcases g1 with g1 | g1
        · exact .inl (h1.trans g1)
        · right; rw [h1, g1]; simp
      · right; exact List.mem_cons_of_mem _ h1
    · intro q hq
      rcases List.mem_cons.mp hq with rfl | hq
      · exact h2.trans g3
      · exact h3 q hq

/-- The reference's choice between two pairs, over the extended reals. -/
abbrev reducer : EReal × BitVec 32 → EReal × BitVec 32 → EReal × BitVec 32 :=
  Cert.ReferenceIdeal.reducer_argmin_f32_i32 (F := Ideal)

theorem reducer_least (a b : EReal × BitVec 32) :
    (reducer a b = a ∨ reducer a b = b)
      ∧ Le (reducer a b) a
      ∧ Le (reducer a b) b := by
  obtain ⟨a1, a2⟩ := a
  obtain ⟨b1, b2⟩ := b
  have h : reducer (a1, a2) (b1, b2)
      = if a1 < b1 ∨ (a1 = b1 ∧ a2.toInt < b2.toInt) then (a1, a2) else (b1, b2) := by
    unfold reducer Cert.ReferenceIdeal.reducer_argmin_f32_i32
    simp only [Ideal.cmpf_def, Ideal.cmp]
    rcases lt_trichotomy a1 b1 with h | h | h
    · simp [h, h.ne, Scalar.select, IntOp.ori, IntOp.andi, IntOp.cmpi]
    · subst h
      by_cases hi : a2.toInt < b2.toInt <;> simp [hi, Scalar.select, IntOp.ori, IntOp.andi, IntOp.cmpi, BitVec.slt]
    · simp [h.not_gt, h.ne', Scalar.select, IntOp.ori, IntOp.andi, IntOp.cmpi]
  rw [h]
  split
  · next hc =>
    refine ⟨.inl rfl, Le.refl _, ?_⟩
    rcases hc with hc | ⟨hc, hi⟩
    · exact .inl hc
    · exact .inr ⟨hc, hi.le⟩
  · next hc =>
    push Not at hc
    refine ⟨.inr rfl, ?_, Le.refl _⟩
    rcases lt_or_eq_of_le hc.1 with h | h
    · exact .inl h
    · exact .inr ⟨h, hc.2 h.symm⟩

theorem argReduce_eq {s t u : Shape} {a : Fin s.rank} (h : s.Reduces [a] t) (h' : s.ReducesTo [a] t)
    (x : FVec Ideal s .f32) (y : IVec s 32) (ix : FVec Ideal u .f32) (iy : IVec u 32) (hu : 0 < u.numel) (j : t.Idx)
    {n : Nat} (hn : s.size a = n + 1) (hn' : n < 2 ^ 31) (hy : ∀ i, y i = BitVec.ofNat 32 (i a).val)
    (hix : ∀ i, ix i = (⊤ : EReal)) (hiy : ∀ i, iy i = 0#32) :
    (Host.argReduce Cert.ReferenceIdeal.reducer_argmin_f32_i32 x y ix iy h' hu j).2
      = BitVec.ofNat 32 (firstMin fun k : Fin (n + 1) => (show EReal from x (h.lift j (k.cast hn.symm)))).val := by
  set f : Fin (n + 1) → EReal := fun k => x (h.lift j (k.cast hn.symm)) with hf
  have hmem : ∀ p : EReal × BitVec 32, p ∈ Host.argReduceFiber (α := EReal) x y h' j ↔ ∃ k : Fin (n + 1), p = (f k, BitVec.ofNat 32 k.val) := by
    intro p
    simp only [Host.argReduceFiber, List.mem_map, List.mem_filter, List.mem_finRange, true_and, decide_eq_true_eq]
    constructor
    · rintro ⟨i, hi, rfl⟩
      rw [Shape.ReducesTo.drop_eq_drop h' h] at hi
      refine ⟨(s.rowMajor.symm i a).cast hn, ?_⟩
      subst hi
      simp only [hf, Fin.cast_cast, Fin.cast_eq_self, h.lift_drop, hy]
      rfl
    · rintro ⟨k, rfl⟩
      refine ⟨s.rowMajor (h.lift j (k.cast hn.symm)), ?_, ?_⟩
      · rw [Equiv.symm_apply_apply, Shape.ReducesTo.drop_eq_drop h' h, h.drop_lift]
      · rw [Equiv.symm_apply_apply, hy]
        simp [hf, h.lift_val, Shape.Reduces.liftVal]
  have toInt_ofNat : ∀ k : Fin (n + 1), (BitVec.ofNat 32 k.val).toInt = (k.val : Int) := by
    intro k
    have := k.isLt
    have e : (BitVec.ofNat 32 k.val).toNat = k.val := by
      rw [BitVec.toNat_ofNat]
      exact Nat.mod_eq_of_lt (by omega)
    rw [BitVec.toInt_eq_toNat_of_lt (by omega), e]
  rw [Ideal.argReduce_eq_reduce2, Host.reduce2_eq_foldl_fiber, hix, hiy]
  obtain ⟨h1, h2, h3⟩ := foldl_least _ reducer_least (Host.argReduceFiber (α := EReal) x y h' j) (⊤, 0#32)
  have hle : ∀ k : Fin (n + 1), Le (List.foldl reducer (⊤, 0#32) (Host.argReduceFiber (α := EReal) x y h' j)) (f k, BitVec.ofNat 32 k.val) :=
    fun k => h3 _ ((hmem _).mpr ⟨k, rfl⟩)
  have main : ∃ k : Fin (n + 1), (List.foldl reducer (⊤, 0#32) (Host.argReduceFiber (α := EReal) x y h' j)) = (f k, BitVec.ofNat 32 k.val) := by
    rcases h1 with h1 | h1
    · have h0 := hle 0
      rw [h1] at h0 ⊢
      refine ⟨0, ?_⟩
      rcases h0 with h0 | ⟨h0, -⟩
      · exact absurd h0 not_top_lt
      · exact Prod.ext h0 rfl
    · exact (hmem _).mp h1
  obtain ⟨k, hk⟩ := main
  rw [hk] at hle
  have first : IsFirst f k := by
    constructor
    · intro k'
      rcases hle k' with h | ⟨h, -⟩
      · exact h.le
      · exact h.le
    · intro k' e
      rcases hle k' with h | ⟨-, h⟩
      · exact absurd (e ▸ h) (lt_irrefl _)
      · simp only [toInt_ofNat] at h
        exact_mod_cast h
  rw [← first.eq_firstMin]
  exact congrArg Prod.snd hk

end Cert.Argmin
-- ==== Proof.Spec.lean ====
/-
  Vector quantization of one row, over the extended reals: the distances to the codebook rows, the number of the nearest
  one, the one-hot row of that number and the codebook row it picks; and the two numbers taken over all rows.
-/
module

public import proofs.«01_k».proof.Proof.Argmin

@[expose] public section

noncomputable section

namespace Cert.Spec

open Idealize.ShloMosaic Cert.Argmin

/-- A row of entries. -/
abbrev Row := Fin 256 → EReal
/-- The codebook. -/
abbrev Book := Fin 1024 → Row

/-- The squared distance of a row to codebook row `k`, multiplied out. -/
def distTo (x : Row) (w : Book) (k : Fin 1024) : EReal :=
  ((∑ d, x d * x d) + ∑ d, w k d * w k d) - Ideal.ofBits .f32 0x40000000#32 * ∑ d, x d * w k d

/-- The number of the nearest codebook row. -/
def near (x : Row) (w : Book) : Fin 1024 := firstMin (n := 1023) (distTo x w)

/-- The one-hot row of that number. -/
def hot (x : Row) (w : Book) (k : Fin 1024) : EReal := if near x w = k then 1 else 0

/-- The row picked from the codebook. -/
def pick (x : Row) (w : Book) (d : Fin 256) : EReal := ∑ k, hot x w k * w k d

/-- The squared error of the row picked. -/
def err (x : Row) (w : Book) : EReal := ∑ d, (pick x w d - x d) * (pick x w d - x d)

/-- The loss of a total squared error. -/
def loss (s : EReal) : EReal := Ideal.ofBits .f32 0x3E800000#32 * Ideal.div s (Ideal.ofBits .f32 0x4A000000#32)

/-- One term of the entropy of a count. -/
def term (n : EReal) : EReal :=
  Ideal.div n (Ideal.ofBits .f32 0x46000000#32)
    * Ideal.log (Ideal.div n (Ideal.ofBits .f32 0x46000000#32) + Ideal.ofBits .f32 0x2EDBE6FF#32)

/-- The perplexity of the counts. -/
def perplexity (n : Fin 1024 → EReal) : EReal := Ideal.exp (-∑ k, term (n k))

end Cert.Spec
-- ==== Proof.Payload.lean ====
/-
  What the kernel's body computes from one block of rows and the codebook, entry by entry.
-/
module

public import proofs.«01_k».proof.Proof.Gen.KernelIdeal.Frame
public import proofs.«01_k».proof.Proof.Spec
public import Idealize.ShloMosaic.Lib.Pipeline.ValueKit

@[expose] public section

set_option maxRecDepth 16384

noncomputable section

namespace Cert.Payload

open Cert.KernelIdeal Cert.KernelIdeal.Gen Cert.Spec Cert.Argmin
open Idealize.ShloMosaic Idealize.ShloMosaic.TcCoe Idealize.SL.Sem

/-- The codebook of an array. -/
def book (w : FVec Ideal S1024x256 .f32) : Book := fun k d => w (ix2 k d)

/-- Row `r` of a block. -/
def row (x : FVec Ideal S2048x256 .f32) (r : Fin 2048) : Row := fun d => x (ix2 r d)

variable (w : FVec Ideal S1024x256 .f32) (x : FVec Ideal S2048x256 .f32)

theorem norms_at (j : S1024x1.Idx) : k0_pay6 (F := Ideal) w j = ∑ d : Fin 256, w (ix2 (j 0) d) * w (ix2 (j 0) d) := by
  pointwise [k0_pay6]

theorem copy_at : k0_pay7 (F := Ideal) x = x := by
  funext j
  pointwise [k0_pay7]

theorem near_at (j : S2048.Idx) : k0_pay8 (F := Ideal) w x (k0_pay6 (F := Ideal) w) j = BitVec.ofNat 32 (near (row x (j 0)) (book w)).val := by
  unfold k0_pay8
  rw [copy_at]
  refine (reduceIndex_eq _ _ _ (n := 1023) rfl).trans ?_
  congr 3
  funext k
  generalize hi : Shape.Reduces.lift _ j _ = i
  have h0 : (i 0 : ℕ) = k.val := by subst hi; rfl
  have h1 : (i 1 : ℕ) = (j 0 : ℕ) := by subst hi; rfl
  have e0 : i 0 = (k : Fin 1024) := Fin.ext h0
  have e1 : i 1 = (j 0 : Fin 2048) := Fin.ext h1
  pointwise [k0_pay6]
  rw [e0, e1]
  simp only [distTo, row, book, mul_comm]

/-- Two codebook numbers are equal when their words are. -/
theorem number_beq (a b : Fin 1024) : (BitVec.ofNat 32 a.val == BitVec.ofNat 32 b.val) = decide (a = b) := by
  rw [Bool.eq_iff_iff, beq_iff_eq, decide_eq_true_eq]
  refine ⟨fun h => Fin.ext ?_, fun h => h ▸ rfl⟩
  have h := congrArg BitVec.toNat h
  simp only [BitVec.toNat_ofNat] at h
  omega

/-- The bit of an equality of numbers, widened and converted. -/
theorem one_hot (a b : Fin 1024) :
    FloatOps.sitofp (F := Ideal) .f32 (BitVec.setWidth 32 (IntOp.cmpi .eq (BitVec.ofNat 32 a.val) (BitVec.ofNat 32 b.val)))
      = if a = b then (1 : EReal) else 0 := by
  show ((BitVec.toInt (BitVec.setWidth 32 (BitVec.ofBool (BitVec.ofNat 32 a.val == BitVec.ofNat 32 b.val))) : ℝ) : EReal) = _
  rw [number_beq]
  by_cases h : a = b <;> simp [h]

theorem hot_at (j : S2048x1024.Idx) :
    k0_pay9 (F := Ideal) w x (k0_pay6 (F := Ideal) w) j = hot (row x (j 0)) (book w) (j 1) := by
  pointwise [k0_pay9]
  rw [near_at]
  exact one_hot (near (row x (j 0)) (book w)) (j 1)

theorem pick_at (j : S2048x256.Idx) :
    k0_pay10 (F := Ideal) w x (k0_pay6 (F := Ideal) w) j = pick (row x (j 0)) (book w) (j 1) := by
  pointwise [k0_pay10]
  simp only [hot_at]
  rfl

theorem out_at (j : S2048x256.Idx) :
    k0_pay11 (F := Ideal) w x (k0_pay6 (F := Ideal) w) j = x j + (pick (row x (j 0)) (book w) (j 1) - x j) := by
  pointwise [k0_pay11]
  rw [copy_at, pick_at]

theorem number_at (j : S1x1x2048.Idx) :
    k0_pay12 (F := Ideal) w x (k0_pay6 (F := Ideal) w) j = BitVec.ofNat 32 (near (row x (j 2)) (book w)).val := by
  pointwise [k0_pay12]
  exact near_at w x _

theorem counts_at (e : FVec Ideal S2048x1024 .f32) (n : FVec Ideal S1x1024 .f32) (j : S1x1024.Idx) :
    k0_pay1 (F := Ideal) e n j = n j + ∑ r : Fin 2048, e (ix2 r (j 1)) := by
  pointwise [k0_pay1]

theorem zeros_at (j : S1x1024.Idx) : k0_pay5 (F := Ideal) j = 0 := by
  pointwise [k0_pay5]

theorem errs_eq (q : FVec Ideal S2048x256 .f32) (s : EReal) :
    k0_pay2 (F := Ideal) x q s
      = s + ∑ r : Fin 2048, ∑ d : Fin 256, (q (ix2 r d) - x (ix2 r d)) * (q (ix2 r d) - x (ix2 r d)) := by
  pointwise [k0_pay2]

theorem loss_eq (s : EReal) : k0_pay3 (F := Ideal) s = loss s := by
  pointwise [k0_pay3]
  have h : Ideal.ofBits .f32 0x4A000000#32 ≠ 0 := by
    rw [show Ideal.ofBits .f32 0x4A000000#32 = ((2097152 : ℝ) : EReal) by
      simp [Ideal.ofBits, Ideal.ieee, -EReal.coe_mul]; norm_num]
    norm_num
  simp only [loss, Ideal.div, if_neg h, mul_assoc]

theorem perplexity_eq (n : FVec Ideal S1x1024 .f32) : k0_pay4 (F := Ideal) n = perplexity fun k => n (ix2 0 k) := by
  pointwise [k0_pay4]
  rw [zero_sub]
  simp only [Fin.sum_univ_one, Fin.isValue]
  rfl

end Cert.Payload
-- ==== Proof.KernelBlock.lean ====
/-
  What the kernel leaves at each of its four grid points, over the rows of the whole array: its five result blocks, and
  the counts, the squared error and the codebook's norms that it carries from point to point.
-/
module

public import proofs.«01_k».proof.Proof.Gen.KernelIdeal.Frame
public import proofs.«01_k».proof.Proof.Payload
public import Idealize.ShloMosaic.Lib.Pipeline.ValueKit

@[expose] public section

set_option maxRecDepth 16384

noncomputable section

namespace Cert.KernelBlock

open Cert.KernelIdeal Cert.KernelIdeal.Gen Cert.Spec Cert.Payload
open Idealize.ShloMosaic Idealize.ShloMosaic.TcCoe Idealize.SL.Sem
open Idealize.ShloMosaic.Pipeline (Dat)

variable (m : (ℓ : Loc nD τ sig) → Buf (Elt Ideal) ℓ) (c : Dev nD)

/-- The rows: the first argument with its channel axis last, one row per position. -/
def rows : FVec Ideal S8192x256 .f32 := V m c main_v1

/-- Row `n` of an array of rows. -/
def rowOf (x : FVec Ideal S8192x256 .f32) (n : Fin 8192) : Row := fun d => x (ix2 n d)

/-- The codebook. -/
def codes : FVec Ideal S1024x256 .f32 := m ((c : Thread nD τ).loc main_arg1)

theorem place_lt {t r : Nat} (ht : t < 4) (hr : r < 2048) : 2048 * t + r < 8192 := by omega

/-- The row of the whole array that is row `r` of point `t`'s block. -/
def place (t : Fin cfg0.N) (r : Fin 2048) : Fin 8192 :=
  ⟨2048 * t.val + r.val, place_lt (lt_of_lt_of_eq t.isLt N_0) r.isLt⟩

theorem idx : ∀ t : Fin cfg0.N, win0_0.index t = ![t.val, 0] ∧ win0_1.index t = ![0, 0] :=
  (by decide +kernel : ∀ t : Fin grid0.N, _)

theorem codes_block (t : Fin cfg0.N) : iblk m c 1 t = codes m c := by
  unfold codes
  blk_ext! [iblk, V, idx t]

theorem row_block (t : Fin cfg0.N) (r : Fin 2048) : row (iblk m c 0 t) r = rowOf (rows m c) (place t r) := by
  funext d
  unfold row rowOf rows place
  blk_ext [iblk, idx t]

/-- The contents of a carried buffer as the next point reads them. -/
theorem read_carried {b : Ref sig .tc} (h : (Memref.whole b).IsWhole) (X : b.ty.shape.Idx → Elt Ideal b.ty.elt) :
    (View.whole b).read (Elt Ideal) (h.unread X) = X :=
  h.read_unread X

/-- The only index of one entry. -/
theorem first_one (h : 0 < S1.numel) : Shape.Idx.first h = (ix1 0 : S1.Idx) := by
  funext a
  match a with
  | ⟨0, _⟩ => exact Subsingleton.elim (α := Fin 1) _ _

/-! ## What is carried -/

theorem norms_next (t : Fin cfg0.N) (h0 : ¬ t.val % 4 = 0) :
    (outsAt0 m c t.val t.isLt).2.2.2.2.2.2.2
      = (outsAt0 m c (t.val - 1) (Nat.lt_of_le_of_lt (Nat.sub_le _ _) t.isLt)).2.2.2.2.2.2.2 := by
  by_cases h1 : t.val % 4 = 3
  · rw [outsAt0_C m c t h0 h1]
    frame_out
    unfold sout0_C_2
    rfl
  · rw [outsAt0_B m c t h0 h1]
    frame_out
    unfold sout0_B_2
    rfl

theorem norms_first (t : Fin cfg0.N) (h0 : t.val % 4 = 0) :
    (outsAt0 m c t.val t.isLt).2.2.2.2.2.2.2 = k0_pay6 (F := Ideal) (codes m c) := by
  rw [outsAt0_A m c t h0 (fun h => by rw [h0] at h; exact absurd h (by decide))]
  frame_out
  rw [codes_block]

theorem norms_eq (n : Nat) : ∀ hn : n < cfg0.N,
    (outsAt0 m c n hn).2.2.2.2.2.2.2 = k0_pay6 (F := Ideal) (codes m c) := by
  induction n with
  | zero => exact fun hn => norms_first m c ⟨0, hn⟩ rfl
  | succ n ih =>
    intro hn
    have h0 : ¬ (n + 1) % 4 = 0 := by have h := lt_of_lt_of_eq hn N_0; clear ih hn; omega
    exact (norms_next m c ⟨n + 1, hn⟩ h0).trans (ih (Nat.lt_of_succ_lt hn))

/-- The norms as point `t`'s successor reads them. -/
theorem norms_prev (t : Fin cfg0.N) :
    (outsAt0 m c (t.val - 1) (Nat.lt_of_le_of_lt (Nat.sub_le _ _) t.isLt)).2.2.2.2.2.2.2 = k0_pay6 (F := Ideal) (codes m c) :=
  norms_eq m c _ _

/-- The result block at every point. -/
theorem out_block (t : Fin cfg0.N) :
    (outsAt0 m c t.val t.isLt).1 = k0_pay11 (F := Ideal) (codes m c) (iblk m c 0 t) (k0_pay6 (F := Ideal) (codes m c)) := by
  by_cases h0 : t.val % 4 = 0
  · rw [outsAt0_A m c t h0 (fun h => by rw [h0] at h; exact absurd h (by decide))]
    frame_out
    rw [codes_block]
  · by_cases h1 : t.val % 4 = 3
    · rw [outsAt0_C m c t h0 h1]
      frame_out
      rw [read_carried, norms_prev, codes_block]
    · rw [outsAt0_B m c t h0 h1]
      frame_out
      rw [read_carried, norms_prev, codes_block]

/-- The block of one-hot rows at every point. -/
theorem hot_block (t : Fin cfg0.N) :
    (outsAt0 m c t.val t.isLt).2.1 = k0_pay9 (F := Ideal) (codes m c) (iblk m c 0 t) (k0_pay6 (F := Ideal) (codes m c)) := by
  by_cases h0 : t.val % 4 = 0
  · rw [outsAt0_A m c t h0 (fun h => by rw [h0] at h; exact absurd h (by decide))]
    frame_out
    rw [codes_block]
  · by_cases h1 : t.val % 4 = 3
    · rw [outsAt0_C m c t h0 h1]
      frame_out
      rw [read_carried, norms_prev, codes_block]
    · rw [outsAt0_B m c t h0 h1]
      frame_out
      rw [read_carried, norms_prev, codes_block]

/-- The block of numbers at every point. -/
theorem number_block (t : Fin cfg0.N) :
    (outsAt0 m c t.val t.isLt).2.2.1 = k0_pay12 (F := Ideal) (codes m c) (iblk m c 0 t) (k0_pay6 (F := Ideal) (codes m c)) := by
  by_cases h0 : t.val % 4 = 0
  · rw [outsAt0_A m c t h0 (fun h => by rw [h0] at h; exact absurd h (by decide))]
    frame_out
    rw [codes_block]
  · by_cases h1 : t.val % 4 = 3
    · rw [outsAt0_C m c t h0 h1]
      frame_out
      rw [read_carried, norms_prev, codes_block]
    · rw [outsAt0_B m c t h0 h1]
      frame_out
      rw [read_carried, norms_prev, codes_block]

/-- The counts: zero first, then the block's column sums added. -/
theorem counts_first (t : Fin cfg0.N) (h0 : t.val % 4 = 0) :
    (outsAt0 m c t.val t.isLt).2.2.2.2.2.1
      = k0_pay1 (F := Ideal) (k0_pay9 (F := Ideal) (codes m c) (iblk m c 0 t) (k0_pay6 (F := Ideal) (codes m c))) (k0_pay5 (F := Ideal)) := by
  rw [outsAt0_A m c t h0 (fun h => by rw [h0] at h; exact absurd h (by decide))]
  frame_out
  rw [codes_block]

theorem counts_next (t : Fin cfg0.N) (h0 : ¬ t.val % 4 = 0) :
    (outsAt0 m c t.val t.isLt).2.2.2.2.2.1
      = k0_pay1 (F := Ideal) (k0_pay9 (F := Ideal) (codes m c) (iblk m c 0 t) (k0_pay6 (F := Ideal) (codes m c)))
          (outsAt0 m c (t.val - 1) (Nat.lt_of_le_of_lt (Nat.sub_le _ _) t.isLt)).2.2.2.2.2.1 := by
  by_cases h1 : t.val % 4 = 3
  · rw [outsAt0_C m c t h0 h1]
    frame_out
    rw [read_carried, read_carried, norms_prev, codes_block]
  · rw [outsAt0_B m c t h0 h1]
    frame_out
    rw [read_carried, read_carried, norms_prev, codes_block]

/-- The squared error: zero first, then the block's sum added. -/
theorem sse_first (t : Fin cfg0.N) (h0 : t.val % 4 = 0) (j : S1.Idx) :
    (outsAt0 m c t.val t.isLt).2.2.2.2.2.2.1 j
      = k0_pay2 (F := Ideal) (k0_pay7 (F := Ideal) (iblk m c 0 t))
          (k0_pay10 (F := Ideal) (codes m c) (iblk m c 0 t) (k0_pay6 (F := Ideal) (codes m c))) (Ideal.ofBits .f32 0#32) := by
  rw [outsAt0_A m c t h0 (fun h => by rw [h0] at h; exact absurd h (by decide))]
  frame_out
  rw [codes_block]
  rfl

theorem sse_next (t : Fin cfg0.N) (h0 : ¬ t.val % 4 = 0) (j : S1.Idx) :
    (outsAt0 m c t.val t.isLt).2.2.2.2.2.2.1 j
      = k0_pay2 (F := Ideal) (k0_pay7 (F := Ideal) (iblk m c 0 t))
          (k0_pay10 (F := Ideal) (codes m c) (iblk m c 0 t) (k0_pay6 (F := Ideal) (codes m c)))
          ((outsAt0 m c (t.val - 1) (Nat.lt_of_le_of_lt (Nat.sub_le _ _) t.isLt)).2.2.2.2.2.2.1 (ix1 0)) := by
  by_cases h1 : t.val % 4 = 3
  · rw [outsAt0_C m c t h0 h1]
    frame_out
    rw [read_carried, read_carried, norms_prev, codes_block]
    rw [first_one]
  · rw [outsAt0_B m c t h0 h1]
    frame_out
    rw [read_carried, read_carried, norms_prev, codes_block]
    rw [first_one]

/-- The two numbers stored at the last point, of what is carried by then. -/
theorem loss_last (t : Fin cfg0.N) (h1 : t.val % 4 = 3) (j : S1x1.Idx) :
    (outsAt0 m c t.val t.isLt).2.2.2.1 j = k0_pay3 (F := Ideal) ((outsAt0 m c t.val t.isLt).2.2.2.2.2.2.1 (ix1 0)) := by
  have h0 : ¬ t.val % 4 = 0 := fun h => by rw [h1] at h; exact absurd h (by decide)
  rw [sse_next m c t h0, outsAt0_C m c t h0 h1]
  frame_out
  rw [read_carried, read_carried, norms_prev, codes_block]
  rw [first_one]

theorem perplexity_last (t : Fin cfg0.N) (h1 : t.val % 4 = 3) (j : S1x1.Idx) :
    (outsAt0 m c t.val t.isLt).2.2.2.2.1 j = k0_pay4 (F := Ideal) (outsAt0 m c t.val t.isLt).2.2.2.2.2.1 := by
  have h0 : ¬ t.val % 4 = 0 := fun h => by rw [h1] at h; exact absurd h (by decide)
  rw [counts_next m c t h0, outsAt0_C m c t h0 h1]
  frame_out
  rw [read_carried, read_carried, norms_prev, codes_block]

end Cert.KernelBlock
-- ==== Proof.KernelArrays.lean ====
/-
  What the kernel's five result arrays hold after the run, over the rows of the whole array and the codebook.
-/
module

public import proofs.«01_k».proof.Proof.KernelBlock

@[expose] public section

set_option maxRecDepth 16384

noncomputable section

namespace Cert.KernelArrays

open Cert.KernelIdeal Cert.KernelIdeal.Gen Cert.Spec Cert.Payload Cert.KernelBlock
open Idealize.ShloMosaic Idealize.ShloMosaic.TcCoe Idealize.SL.Sem
open Idealize.ShloMosaic.Pipeline (Dat)

/-- Every row moved to the codebook row it picks, as a row plus a difference. -/
def moved (x : FVec Ideal S8192x256 .f32) (w : FVec Ideal S1024x256 .f32) : FVec Ideal S8192x256 .f32 :=
  fun i => x i + (pick (rowOf x (i 0)) (book w) (i 1) - x i)

/-- The one-hot rows. -/
def hots (x : FVec Ideal S8192x256 .f32) (w : FVec Ideal S1024x256 .f32) : FVec Ideal S8192x1024 .f32 :=
  fun i => hot (rowOf x (i 0)) (book w) (i 1)

theorem blocked_lt {t r : Nat} (ht : t < 4) (hr : r < 2048) : t * 2048 + r < 8192 := by omega

/-- The numbers of the codebook rows, four blocks of them. -/
def numbers (x : FVec Ideal S8192x256 .f32) (w : FVec Ideal S1024x256 .f32) : IVec S4x1x2048 32 :=
  fun i => BitVec.ofNat 32 (near (rowOf x ⟨(i 0).val * 2048 + (i 2).val, blocked_lt (i 0).isLt (i 2).isLt⟩) (book w)).val

/-- The total squared error. -/
def total (x : FVec Ideal S8192x256 .f32) (w : FVec Ideal S1024x256 .f32) : EReal := ∑ n, err (rowOf x n) (book w)

/-- How often a codebook row is picked. -/
def picked (x : FVec Ideal S8192x256 .f32) (w : FVec Ideal S1024x256 .f32) (k : Fin 1024) : EReal :=
  ∑ n, hot (rowOf x n) (book w) k

variable (m : (ℓ : Loc nD τ sig) → Buf (Elt Ideal) ℓ) (c : Dev nD)

theorem idxs : ∀ t : Fin cfg0.N, win0_2.index t = ![t.val, 0] ∧ win0_3.index t = ![t.val, 0] ∧ win0_4.index t = ![t.val, 0, 0] :=
  (by decide +kernel : ∀ t : Fin grid0.N, _)

/-- The row of an array index that sits at row `r` of point `t`'s block. -/
theorem row_at (t : Fin cfg0.N) (r : Fin 2048) (n : Fin 8192) (h : n.val = t.val * 2048 + r.val) :
    row (iblk m c 0 t) r = rowOf (rows m c) n := by
  rw [row_block]
  exact congrArg _ (Fin.ext (by rw [h]; simp only [place, mul_comm]))

theorem moved_point (t : Fin cfg0.N) (y : S2048x256.Idx) (i : S8192x256.Idx)
    (h0 : (i 0).val = t.val * 2048 + (y 0).val) (h1 : (i 1).val = (y 1).val) :
    (outsAt0 m c t.val t.isLt).1 y = moved (rows m c) (codes m c) i := by
  have h1' : y 1 = (i 1 : Fin 256) := Fin.ext h1.symm
  have e : row (iblk m c 0 t) (y 0) = rowOf (rows m c) (i 0) := row_at m c t (y 0) (i 0) h0
  have ex : iblk m c 0 t y = rows m c i := by
    have := congrFun e (y 1)
    unfold row rowOf at this
    rw [ix2_eta] at this
    rw [this, h1', ix2_eta]
  rw [out_block, out_at, ex]
  exact congrArg (fun a : EReal => rows m c i + (a - rows m c i))
    ((congrFun (congrArg (fun x => pick x (book (codes m c))) e) _).trans (congrArg _ h1'))

theorem hots_point (t : Fin cfg0.N) (y : S2048x1024.Idx) (i : S8192x1024.Idx)
    (h0 : (i 0).val = t.val * 2048 + (y 0).val) (h1 : (i 1).val = (y 1).val) :
    (outsAt0 m c t.val t.isLt).2.1 y = hots (rows m c) (codes m c) i := by
  have h1' : y 1 = (i 1 : Fin 1024) := Fin.ext h1.symm
  rw [hot_block, hot_at]
  exact (congrFun (congrArg (fun x => hot x (book (codes m c))) (row_at m c t (y 0) (i 0) h0)) _).trans (congrArg _ h1')

theorem numbers_point (t : Fin cfg0.N) (y : S1x1x2048.Idx) (i : S4x1x2048.Idx)
    (h0 : (i 0).val = t.val) (h2 : (i 2).val = (y 2).val) :
    (outsAt0 m c t.val t.isLt).2.2.1 y = numbers (rows m c) (codes m c) i := by
  rw [number_block, number_at]
  exact congrArg (fun x => BitVec.ofNat 32 (near x (book (codes m c))).val)
    (row_at m c t (y 2) ⟨_, blocked_lt (i 0).isLt (i 2).isLt⟩ (by simp only [h0, h2]))

theorem moved_final : (dats m 0 c).arrAt 2 (cfgs 0).N = moved (rows m c) (codes m c) := by
  refine (dats m 0 c).arrAt_eq_of_covers 2 _ (by decide +kernel) fun t _ y => ?_
  blk_simp
  rw [after0_2]
  refine moved_point m c t y _ ?_ ?_ <;> blk_simp [idxs t] <;> simp

theorem hots_final : (dats m 0 c).arrAt 3 (cfgs 0).N = hots (rows m c) (codes m c) := by
  refine (dats m 0 c).arrAt_eq_of_covers 3 _ (by decide +kernel) fun t _ y => ?_
  blk_simp
  rw [after0_3]
  refine hots_point m c t y _ ?_ ?_ <;> blk_simp [idxs t] <;> simp

theorem numbers_final : (dats m 0 c).arrAt 4 (cfgs 0).N = numbers (rows m c) (codes m c) := by
  refine (dats m 0 c).arrAt_eq_of_covers 4 _ (by decide +kernel) fun t _ y => ?_
  blk_simp
  rw [after0_4]
  refine numbers_point m c t y _ ?_ ?_ <;> blk_simp [idxs t] <;> simp

/-- One point's share of the counts. -/
theorem counts_step (t : Fin cfg0.N) (e : FVec Ideal S1x1024 .f32) (k : Fin 1024) :
    k0_pay1 (F := Ideal) (k0_pay9 (F := Ideal) (codes m c) (iblk m c 0 t) (k0_pay6 (F := Ideal) (codes m c))) e (ix2 0 k)
      = e (ix2 0 k) + ∑ r : Fin 2048, hot (rowOf (rows m c) (place t r)) (book (codes m c)) k := by
  rw [counts_at]
  refine congrArg (fun a : EReal => e (ix2 0 k) + a) (Finset.sum_congr rfl fun r _ => ?_)
  exact (hot_at (codes m c) (iblk m c 0 t) (ix2 r k)).trans
    (congrArg (fun x => hot x (book (codes m c)) k) (row_block m c t r))

/-- One point's share of the squared error. -/
theorem sse_step (t : Fin cfg0.N) (e : EReal) :
    k0_pay2 (F := Ideal) (k0_pay7 (F := Ideal) (iblk m c 0 t))
        (k0_pay10 (F := Ideal) (codes m c) (iblk m c 0 t) (k0_pay6 (F := Ideal) (codes m c))) e
      = e + ∑ r : Fin 2048, err (rowOf (rows m c) (place t r)) (book (codes m c)) := by
  rw [copy_at, errs_eq]
  congr 1
  refine Finset.sum_congr rfl fun r _ => ?_
  rw [← row_block m c t r]
  refine Finset.sum_congr rfl fun d _ => ?_
  rw [pick_at]
  rfl

/-- Four blocks of rows are all rows. -/
theorem sum_blocks (f : Fin 8192 → EReal) (h : ∀ n, n < 4 → n < cfg0.N) :
    (((0 + ∑ r, f (place ⟨0, h 0 (by decide)⟩ r)) + ∑ r, f (place ⟨1, h 1 (by decide)⟩ r))
      + ∑ r, f (place ⟨2, h 2 (by decide)⟩ r)) + ∑ r, f (place ⟨3, h 3 (by decide)⟩ r) = ∑ n, f n := by
  have e : ∑ s : Fin 4, ∑ r : Fin 2048, f (place ⟨s.val, h s.val s.isLt⟩ r) = ∑ n, f n := by
    refine Fin.sum_mul_add_congr fun s r hl => ?_
    exact congrArg f (Fin.ext (by simp only [place, mul_comm]))
  rw [← e, Fin.sum_univ_four, zero_add]
  rfl

theorem points (n : Nat) (h : n < 4) : n < cfg0.N := lt_of_lt_of_eq h N_0.symm

/-- The counts at a point, from the counts of the point before. -/
theorem counts_succ (n : Nat) (h : n + 1 < cfg0.N) (h' : n < cfg0.N) (h0 : ¬ (n + 1) % 4 = 0) (k : Fin 1024) :
    (outsAt0 m c (n + 1) h).2.2.2.2.2.1 (ix2 0 k)
      = (outsAt0 m c n h').2.2.2.2.2.1 (ix2 0 k) + ∑ r : Fin 2048, hot (rowOf (rows m c) (place ⟨n + 1, h⟩ r)) (book (codes m c)) k :=
  (congrFun (counts_next m c ⟨n + 1, h⟩ h0) (ix2 0 k)).trans (counts_step m c _ _ k)

theorem counts_zero (h : 0 < cfg0.N) (k : Fin 1024) :
    (outsAt0 m c 0 h).2.2.2.2.2.1 (ix2 0 k)
      = 0 + ∑ r : Fin 2048, hot (rowOf (rows m c) (place ⟨0, h⟩ r)) (book (codes m c)) k := by
  refine (congrFun (counts_first m c ⟨0, h⟩ rfl) (ix2 0 k)).trans ((counts_step m c _ _ k).trans ?_)
  rw [zeros_at]

theorem counts_last (k : Fin 1024) :
    (outsAt0 m c 3 (points 3 (by decide))).2.2.2.2.2.1 (ix2 0 k) = picked (rows m c) (codes m c) k := by
  rw [counts_succ m c 2 _ (points 2 (by decide)) (by decide), counts_succ m c 1 _ (points 1 (by decide)) (by decide),
    counts_succ m c 0 _ (points 0 (by decide)) (by decide), counts_zero]
  exact sum_blocks (fun n => hot (rowOf (rows m c) n) (book (codes m c)) k) points

theorem sse_last : (outsAt0 m c 3 (points 3 (by decide))).2.2.2.2.2.2.1 (ix1 0) = total (rows m c) (codes m c) := by
  have e0 := (sse_first m c ⟨0, points 0 (by decide)⟩ rfl (ix1 0)).trans (sse_step m c _ _)
  have e1 := (sse_next m c ⟨1, points 1 (by decide)⟩ (by decide : ¬ 1 % 4 = 0) (ix1 0)).trans (sse_step m c _ _)
  have e2 := (sse_next m c ⟨2, points 2 (by decide)⟩ (by decide : ¬ 2 % 4 = 0) (ix1 0)).trans (sse_step m c _ _)
  have e3 := (sse_next m c ⟨3, points 3 (by decide)⟩ (by decide : ¬ 3 % 4 = 0) (ix1 0)).trans (sse_step m c _ _)
  rw [Ideal.ofBits_zero_f32] at e0
  refine Eq.trans ?_ (sum_blocks (fun n => err (rowOf (rows m c) n) (book (codes m c))) points)
  refine e3.trans (congrArg (fun a : EReal => a + _) ?_)
  refine e2.trans (congrArg (fun a : EReal => a + _) ?_)
  exact e1.trans (congrArg (fun a : EReal => a + _) e0)

theorem loss_final : (dats m 0 c).arrAt 5 (cfgs 0).N = fun _ => loss (total (rows m c) (codes m c)) := by
  refine (dats m 0 c).arrAt_eq_of_after_last 5 t0_3 (by decide +kernel) _ fun j => ?_
  blk_simp
  rw [after0_5, loss_last m c t0_3 rfl, Payload.loss_eq]
  exact congrArg loss (sse_last m c)

theorem perplexity_final : (dats m 0 c).arrAt 6 (cfgs 0).N = fun _ => perplexity (picked (rows m c) (codes m c)) := by
  refine (dats m 0 c).arrAt_eq_of_after_last 6 t0_3 (by decide +kernel) _ fun j => ?_
  blk_simp
  rw [after0_6, perplexity_last m c t0_3 rfl, Payload.perplexity_eq]
  exact congrArg perplexity (funext fun k => counts_last m c k)

end Cert.KernelArrays
-- ==== Proof.KernelRun.lean ====
/-
  The kernel's whole run: the lines before its grid lay the argument out as rows, the lines after it lay the results out.
-/
module

public import proofs.«01_k».proof.Proof.KernelArrays
public import Idealize.ShloMosaic.Lib.Claim
public import Idealize.ShloMosaic.Lib.StableHlo.RunRead

@[expose] public section

set_option maxRecDepth 16384

noncomputable section

namespace Cert.KernelRun

open Cert.KernelIdeal Cert.KernelIdeal.Gen Cert.Spec Cert.KernelBlock Cert.KernelArrays
open Idealize.ShloMosaic Idealize.ShloMosaic.TcCoe Idealize.SL.Sem Idealize.ShloMosaic.StableHlo

/-- The argument as rows: its channel axis last, every other axis folded into one. -/
def flat (a : FVec Ideal S4x256x8x16x16 .f32) : FVec Ideal S8192x256 .f32 :=
  shapeCast S8192x256
    (transpose S4x8x16x16x256 [0, 2, 3, 4, 1] a transposes_S4x256x8x16x16_S4x8x16x16x256_0_2_3_4_1)
    shapeCasts_S4x8x16x16x256_S8192x256

/-- Rows as an array again, its channel axis second. -/
def unflat (x : FVec Ideal S8192x256 .f32) : FVec Ideal S4x256x8x16x16 .f32 :=
  transpose S4x256x8x16x16 [0, 4, 1, 2, 3] (shapeCast S4x8x16x16x256 x shapeCasts_S8192x256_S4x8x16x16x256)
    transposes_S4x8x16x16x256_S4x256x8x16x16_0_4_1_2_3

variable (m : (ℓ : Loc nD τ sig) → Buf (Elt Ideal) ℓ) (ρ : Dev nD → PrngReg)

theorem rows_eq (c : Dev nD) : rows m c = flat (m ((c.tc : Thread nD τ).loc main_arg0)) := by
  unfold rows
  entry_read
  rfl

/-- The contents at the end of the grid: each result array as the grid leaves it, read at its own name. -/
abbrev ended (c : Dev nD) : Valuation τ sig (Elt Ideal) :=
  Pipeline.withArrays (cfgs 0).spec c (V0 m c) fun w => (dats m 0 c).arrAt w (cfgs 0).N

theorem ended_at (c : Dev nD) (w : Fin 7) :
    ended m c (Proc.devRef .tc (Pipeline.arrRef (cfgs 0).spec w)) = (dats m 0 c).arrAt w (cfgs 0).N :=
  Pipeline.withArrays_arr (cfgs 0).spec (by decide) c (V0 m c) _ w

theorem loss_tail (c : Dev nD) : Pipeline.afterTail₀ cfgs (dats m) 0 (V0 m) [hostOps1] c main_v5
    = shapeCast S_ ((dats m 0 c).arrAt 5 (cfgs 0).N) shapeCasts_S1x1_S_ := by
  unfold Pipeline.afterTail₀
  rw [List.flatten_singleton, ← ended_at m c 5]
  after_reads_simp
  rfl

theorem moved_tail (c : Dev nD) : Pipeline.afterTail₀ cfgs (dats m) 0 (V0 m) [hostOps1] c main_v4
    = unflat ((dats m 0 c).arrAt 2 (cfgs 0).N) := by
  unfold Pipeline.afterTail₀
  rw [List.flatten_singleton, ← ended_at m c 2]
  after_reads_simp
  rfl

theorem perplexity_tail (c : Dev nD) : Pipeline.afterTail₀ cfgs (dats m) 0 (V0 m) [hostOps1] c main_v6
    = shapeCast S_ ((dats m 0 c).arrAt 6 (cfgs 0).N) shapeCasts_S1x1_S_ := by
  unfold Pipeline.afterTail₀
  rw [List.flatten_singleton, ← ended_at m c 6]
  after_reads_simp
  rfl

theorem numbers_tail (c : Dev nD) : Pipeline.afterTail₀ cfgs (dats m) 0 (V0 m) [hostOps1] c main_v7
    = shapeCast S8192x1 ((dats m 0 c).arrAt 4 (cfgs 0).N) shapeCasts_S4x1x2048_S8192x1 := by
  unfold Pipeline.afterTail₀
  rw [List.flatten_singleton, ← ended_at m c 4]
  after_reads_simp
  rfl

/-- The five results of the kernel, and its two arguments unchanged. -/
theorem run : θ_run (defs (F := Ideal)) (onTc (τ := τ) (main (F := Ideal))) ⟨m, fun _ => 0, ρ⟩ (fun r => ∀ c : Dev nD,
      r.2.mem ((c.tc : Thread nD τ).loc main_v5)
        = (fun _ => loss (total (flat (m ((c.tc : Thread nD τ).loc main_arg0))) (m ((c.tc : Thread nD τ).loc main_arg1))))
      ∧ r.2.mem ((c.tc : Thread nD τ).loc main_v4)
        = unflat (moved (flat (m ((c.tc : Thread nD τ).loc main_arg0))) (m ((c.tc : Thread nD τ).loc main_arg1)))
      ∧ r.2.mem ((c.tc : Thread nD τ).loc main_v6)
        = (fun _ => perplexity (picked (flat (m ((c.tc : Thread nD τ).loc main_arg0))) (m ((c.tc : Thread nD τ).loc main_arg1))))
      ∧ r.2.mem ((c.tc : Thread nD τ).loc main_v2_1)
        = hots (flat (m ((c.tc : Thread nD τ).loc main_arg0))) (m ((c.tc : Thread nD τ).loc main_arg1))
      ∧ r.2.mem ((c.tc : Thread nD τ).loc main_v7)
        = shapeCast S8192x1
            (numbers (flat (m ((c.tc : Thread nD τ).loc main_arg0))) (m ((c.tc : Thread nD τ).loc main_arg1)))
            shapeCasts_S4x1x2048_S8192x1
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from unchanged m ρ & run_main m ρ
  · rw [loss_tail, loss_final, rows_eq]; rfl
  · rw [moved_tail, moved_final, rows_eq]; rfl
  · rw [perplexity_tail, perplexity_final, rows_eq]; rfl
  · rw [hots_final, rows_eq]; rfl
  · rw [numbers_tail, numbers_final, rows_eq]; rfl

end Cert.KernelRun
-- ==== Proof.RefRun.lean ====
/-
  The run of the reference program: a straight line of host operations, so it ends with every buffer at those operations'
  results composed. The five result buffers are named as terms of the two arguments, one definition per step of the
  reference, and the run is stated with them.
-/
module

public import proofs.«01_k».proof.Proof.Gen.ReferenceIdeal
public import Idealize.ShloMosaic.Lib.StableHlo.Run
public import Idealize.ShloMosaic.Lib.StableHlo.RunRead
public import Idealize.ShloMosaic.Lib.Quiescent
public import Idealize.ShloMosaic.Lib.Tactic.CleanTypes

@[expose] public section

set_option maxRecDepth 16384

noncomputable section

namespace Cert.RefRun

open Cert.ReferenceIdeal Cert.ReferenceIdeal.Gen
open Idealize.ShloMosaic Idealize.ShloMosaic.TcCoe Idealize.ShloMosaic.StableHlo Idealize.SL.Sem

variable {F : FTy → Type} [FloatOps F]

/-- The operations of @main in order, the two calls' operations in place. -/
abbrev ops : List (HloOp τ sig (Elt F)) :=
  [ unary main_arg0 main_v0 ((transpose S4x8x16x16x256 [0, 2, 3, 4, 1] · transposes_S4x256x8x16x16_S4x8x16x16x256_0_2_3_4_1) : (⟨S4x256x8x16x16, .f32⟩ : BufTy).Contents (Elt F) → (⟨S4x8x16x16x256, .f32⟩ : BufTy).Contents (Elt F)),
    reshape main_v0 main_v1 (rfl : (.f32 : EltTy) = .f32) shapeCasts_S4x8x16x16x256_S8192x256,
    binary main_v1 main_v1 main_v2 (mulf : (⟨S8192x256, .f32⟩ : BufTy).Contents (Elt F) → (⟨S8192x256, .f32⟩ : BufTy).Contents (Elt F) → (⟨S8192x256, .f32⟩ : BufTy).Contents (Elt F)),
    nullary main_cst (constant S_ .f32 0x00000000#32),
    binary main_v2 main_cst main_v3 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v3 main_v4 (broadcastInDim S8192x1 ![0] bcast_S8192_S8192x1_0 : (⟨S8192, .f32⟩ : BufTy).Contents (Elt F) → (⟨S8192x1, .f32⟩ : BufTy).Contents (Elt F)),
    binary main_arg1 main_arg1 main_v5 (mulf : (⟨S1024x256, .f32⟩ : BufTy).Contents (Elt F) → (⟨S1024x256, .f32⟩ : BufTy).Contents (Elt F) → (⟨S1024x256, .f32⟩ : BufTy).Contents (Elt F)),
    nullary main_cst_0 (constant S_ .f32 0x00000000#32),
    binary main_v5 main_cst_0 main_v6 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v6 main_v7 (broadcastInDim S1x1024 ![1] bcast_S1024_S1x1024_1 : (⟨S1024, .f32⟩ : BufTy).Contents (Elt F) → (⟨S1x1024, .f32⟩ : BufTy).Contents (Elt F)),
    unary main_v4 main_v8 (broadcastInDim S8192x1024 ![0, 1] bcast_S8192x1_S8192x1024_0_1 : (⟨S8192x1, .f32⟩ : BufTy).Contents (Elt F) → (⟨S8192x1024, .f32⟩ : BufTy).Contents (Elt F)),
    unary main_v7 main_v9 (broadcastInDim S8192x1024 ![0, 1] bcast_S1x1024_S8192x1024_0_1 : (⟨S1x1024, .f32⟩ : BufTy).Contents (Elt F) → (⟨S8192x1024, .f32⟩ : BufTy).Contents (Elt F)),
    binary main_v8 main_v9 main_v10 (addf : (⟨S8192x1024, .f32⟩ : BufTy).Contents (Elt F) → (⟨S8192x1024, .f32⟩ : BufTy).Contents (Elt F) → (⟨S8192x1024, .f32⟩ : BufTy).Contents (Elt F)),
    unary main_arg1 main_v11 ((transpose S256x1024 [1, 0] · transposes_S1024x256_S256x1024_1_0) : (⟨S1024x256, .f32⟩ : BufTy).Contents (Elt F) → (⟨S256x1024, .f32⟩ : BufTy).Contents (Elt F)),
    binary main_v1 main_v11 main_v12 ((fun l r => Host.dotGeneral dot_S8192x256_S256x1024_S8192x1024_1_0_0_1_n_n none l r) : (⟨S8192x256, .f32⟩ : BufTy).Contents (Elt F) → (⟨S256x1024, .f32⟩ : BufTy).Contents (Elt F) → (⟨S8192x1024, .f32⟩ : BufTy).Contents (Elt F)),
    nullary main_cst_1 (constant S_ .f32 0x40000000#32),
    unary main_cst_1 main_v13 (broadcastInDim S8192x1024 ![] bcast_S_S8192x1024 : (⟨S_, .f32⟩ : BufTy).Contents (Elt F) → (⟨S8192x1024, .f32⟩ : BufTy).Contents (Elt F)),
    binary main_v13 main_v12 main_v14 (mulf : (⟨S8192x1024, .f32⟩ : BufTy).Contents (Elt F) → (⟨S8192x1024, .f32⟩ : BufTy).Contents (Elt F) → (⟨S8192x1024, .f32⟩ : BufTy).Contents (Elt F)),
    binary main_v10 main_v14 main_v15 (subf : (⟨S8192x1024, .f32⟩ : BufTy).Contents (Elt F) → (⟨S8192x1024, .f32⟩ : BufTy).Contents (Elt F) → (⟨S8192x1024, .f32⟩ : BufTy).Contents (Elt F)),
    TRef.nullary main_call0.v0 (iotaInDim S8192x1024 32 1),
    TRef.nullary main_call0.cst (constant S_ .f32 0x7F800000#32),
    TRef.nullary main_call0.c (constantI S_ 32 0#32),
    TRef.quaternary (TRef.of main_v15 : TRef sig ⟨S8192x1024, .f32⟩) main_call0.v0 main_call0.cst main_call0.c main_call0.v1_0 (fun x y u v j => (Host.argReduce reducer_argmin_f32_i32 x y u v reducesTo_S8192x1024_S8192_d1 h_S_ j).1),
    TRef.quaternary (TRef.of main_v15 : TRef sig ⟨S8192x1024, .f32⟩) main_call0.v0 main_call0.cst main_call0.c main_call0.v1_1 (fun x y u v j => (Host.argReduce reducer_argmin_f32_i32 x y u v reducesTo_S8192x1024_S8192_d1 h_S_ j).2),
    TRef.unary (TRef.of main_v16 : TRef sig ⟨S8192, .i32⟩) main_call1.v0 (broadcastInDim S8192x1 ![0] bcast_S8192_S8192x1_0),
    TRef.nullary main_call1.v1 (iotaInDim S1x1024 32 1),
    TRef.unary main_call1.v0 main_call1.v2 (broadcastInDim S8192x1024 ![0, 1] bcast_S8192x1_S8192x1024_0_1),
    TRef.unary main_call1.v1 main_call1.v3 (broadcastInDim S8192x1024 ![0, 1] bcast_S1x1024_S8192x1024_0_1),
    TRef.binary main_call1.v2 main_call1.v3 main_call1.v4 (cmpi .eq),
    TRef.unary main_call1.v4 main_call1.v5 (uitofp .f32),
    binary main_v17 main_arg1 main_v18 ((fun l r => Host.dotGeneral dot_S8192x1024_S1024x256_S8192x256_1_0_0_1_n_n none l r) : (⟨S8192x1024, .f32⟩ : BufTy).Contents (Elt F) → (⟨S1024x256, .f32⟩ : BufTy).Contents (Elt F) → (⟨S8192x256, .f32⟩ : BufTy).Contents (Elt F)),
    reshape main_v18 main_v19 (rfl : (.f32 : EltTy) = .f32) shapeCasts_S8192x256_S4x8x16x16x256,
    binary main_v19 main_v0 main_v20 (subf : (⟨S4x8x16x16x256, .f32⟩ : BufTy).Contents (Elt F) → (⟨S4x8x16x16x256, .f32⟩ : BufTy).Contents (Elt F) → (⟨S4x8x16x16x256, .f32⟩ : BufTy).Contents (Elt F)),
    binary main_v20 main_v20 main_v21 (mulf : (⟨S4x8x16x16x256, .f32⟩ : BufTy).Contents (Elt F) → (⟨S4x8x16x16x256, .f32⟩ : BufTy).Contents (Elt F) → (⟨S4x8x16x16x256, .f32⟩ : BufTy).Contents (Elt F)),
    nullary main_cst_2 (constant S_ .f32 0x00000000#32),
    binary main_v21 main_cst_2 main_v22 ((fun x v => Host.reduceAdd x v reducesTo_S4x8x16x16x256_S_d0_1_2_3_4 h_S_) : (⟨S4x8x16x16x256, .f32⟩ : BufTy).Contents (Elt F) → (⟨S_, .f32⟩ : BufTy).Contents (Elt F) → (⟨S_, .f32⟩ : BufTy).Contents (Elt F)),
    nullary main_cst_3 (constant S_ .f32 0x4A000000#32),
    binary main_v22 main_cst_3 main_v23 (Host.divf : (⟨S_, .f32⟩ : BufTy).Contents (Elt F) → (⟨S_, .f32⟩ : BufTy).Contents (Elt F) → (⟨S_, .f32⟩ : BufTy).Contents (Elt F)),
    nullary main_cst_4 (constant S_ .f32 0x3E800000#32),
    binary main_cst_4 main_v23 main_v24 (mulf : (⟨S_, .f32⟩ : BufTy).Contents (Elt F) → (⟨S_, .f32⟩ : BufTy).Contents (Elt F) → (⟨S_, .f32⟩ : BufTy).Contents (Elt F)),
    binary main_v19 main_v0 main_v25 (subf : (⟨S4x8x16x16x256, .f32⟩ : BufTy).Contents (Elt F) → (⟨S4x8x16x16x256, .f32⟩ : BufTy).Contents (Elt F) → (⟨S4x8x16x16x256, .f32⟩ : BufTy).Contents (Elt F)),
    binary main_v0 main_v25 main_v26 (addf : (⟨S4x8x16x16x256, .f32⟩ : BufTy).Contents (Elt F) → (⟨S4x8x16x16x256, .f32⟩ : BufTy).Contents (Elt F) → (⟨S4x8x16x16x256, .f32⟩ : BufTy).Contents (Elt F)),
    nullary main_cst_5 (constant S_ .f32 0x00000000#32),
    binary main_v17 main_cst_5 main_v27 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    nullary main_cst_6 (constant S_ .f32 0x46000000#32),
    unary main_cst_6 main_v28 (broadcastInDim S1024 ![] bcast_S_S1024 : (⟨S_, .f32⟩ : BufTy).Contents (Elt F) → (⟨S1024, .f32⟩ : BufTy).Contents (Elt F)),
    binary main_v27 main_v28 main_v29 (Host.divf : (⟨S1024, .f32⟩ : BufTy).Contents (Elt F) → (⟨S1024, .f32⟩ : BufTy).Contents (Elt F) → (⟨S1024, .f32⟩ : BufTy).Contents (Elt F)),
    nullary main_cst_7 (constant S_ .f32 0x2EDBE6FF#32),
    unary main_cst_7 main_v30 (broadcastInDim S1024 ![] bcast_S_S1024 : (⟨S_, .f32⟩ : BufTy).Contents (Elt F) → (⟨S1024, .f32⟩ : BufTy).Contents (Elt F)),
    binary main_v29 main_v30 main_v31 (addf : (⟨S1024, .f32⟩ : BufTy).Contents (Elt F) → (⟨S1024, .f32⟩ : BufTy).Contents (Elt F) → (⟨S1024, .f32⟩ : BufTy).Contents (Elt F)),
    unary main_v31 main_v32 (Host.log : (⟨S1024, .f32⟩ : BufTy).Contents (Elt F) → (⟨S1024, .f32⟩ : BufTy).Contents (Elt F)),
    binary main_v29 main_v32 main_v33 (mulf : (⟨S1024, .f32⟩ : BufTy).Contents (Elt F) → (⟨S1024, .f32⟩ : BufTy).Contents (Elt F) → (⟨S1024, .f32⟩ : BufTy).Contents (Elt F)),
    nullary main_cst_8 (constant S_ .f32 0x00000000#32),
    binary main_v33 main_cst_8 main_v34 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v34 main_v35 (Host.negf : (⟨S_, .f32⟩ : BufTy).Contents (Elt F) → (⟨S_, .f32⟩ : BufTy).Contents (Elt F)),
    unary main_v35 main_v36 (Host.exp : (⟨S_, .f32⟩ : BufTy).Contents (Elt F) → (⟨S_, .f32⟩ : BufTy).Contents (Elt F)),
    unary main_v26 main_v37 ((transpose S4x256x8x16x16 [0, 4, 1, 2, 3] · transposes_S4x8x16x16x256_S4x256x8x16x16_0_4_1_2_3) : (⟨S4x8x16x16x256, .f32⟩ : BufTy).Contents (Elt F) → (⟨S4x256x8x16x16, .f32⟩ : BufTy).Contents (Elt F)),
    unary main_v16 main_v38 (broadcastInDim S8192x1 ![0] bcast_S8192_S8192x1_0 : (⟨S8192, .i32⟩ : BufTy).Contents (Elt F) → (⟨S8192x1, .i32⟩ : BufTy).Contents (Elt F)) ]

/-- @main is that line. -/
theorem main_eq (c : Dev nD) : main (F := F) c = seq ops := rfl

/-! ## The results as terms of the arguments -/

/-- The argument with its channel axis last. -/
def vX (a : FVec F S4x256x8x16x16 .f32) : FVec F S4x8x16x16x256 .f32 :=
  transpose S4x8x16x16x256 [0, 2, 3, 4, 1] a transposes_S4x256x8x16x16_S4x8x16x16x256_0_2_3_4_1

/-- The tokens: one row of 256 entries each. -/
def vFlat (a : FVec F S4x256x8x16x16 .f32) : FVec F S8192x256 .f32 :=
  shapeCast S8192x256 (vX a) shapeCasts_S4x8x16x16x256_S8192x256

/-- The distance of every token to every codebook row. -/
def vDist (x : FVec F S8192x256 .f32) (w : FVec F S1024x256 .f32) : FVec F S8192x1024 .f32 :=
  subf
    (addf
      (broadcastInDim S8192x1024 ![0, 1] bcast_S8192x1_S8192x1024_0_1
        (broadcastInDim S8192x1 ![0] bcast_S8192_S8192x1_0
          (Host.reduceAdd (mulf x x) (constant S_ .f32 0x00000000#32) reducesTo_S8192x256_S8192_d1 h_S_)))
      (broadcastInDim S8192x1024 ![0, 1] bcast_S1x1024_S8192x1024_0_1
        (broadcastInDim S1x1024 ![1] bcast_S1024_S1x1024_1
          (Host.reduceAdd (mulf w w) (constant S_ .f32 0x00000000#32) reducesTo_S1024x256_S1024_d1 h_S_))))
    (mulf (broadcastInDim S8192x1024 ![] bcast_S_S8192x1024 (constant S_ .f32 0x40000000#32))
      (Host.dotGeneral dot_S8192x256_S256x1024_S8192x1024_1_0_0_1_n_n none x
        (transpose S256x1024 [1, 0] w transposes_S1024x256_S256x1024_1_0)))

/-- The number of the codebook row nearest to each token. -/
def vIdx (d : FVec F S8192x1024 .f32) : IVec S8192 32 := fun j =>
  (Host.argReduce reducer_argmin_f32_i32 d (iotaInDim S8192x1024 32 1) (constant S_ .f32 0x7F800000#32)
    (constantI S_ 32 0#32) reducesTo_S8192x1024_S8192_d1 h_S_ j).2

/-- The one-hot rows of those numbers. -/
def vEnc (i : IVec S8192 32) : FVec F S8192x1024 .f32 :=
  uitofp .f32 (cmpi .eq
    (broadcastInDim S8192x1024 ![0, 1] bcast_S8192x1_S8192x1024_0_1 (broadcastInDim S8192x1 ![0] bcast_S8192_S8192x1_0 i))
    (broadcastInDim S8192x1024 ![0, 1] bcast_S1x1024_S8192x1024_0_1 (iotaInDim S1x1024 32 1)))

/-- The codebook rows taken, in the shape of the argument with its channel axis last. -/
def vQ (e : FVec F S8192x1024 .f32) (w : FVec F S1024x256 .f32) : FVec F S4x8x16x16x256 .f32 :=
  shapeCast S4x8x16x16x256 (Host.dotGeneral dot_S8192x1024_S1024x256_S8192x256_1_0_0_1_n_n none e w)
    shapeCasts_S8192x256_S4x8x16x16x256

/-- The loss: a quarter of the mean squared distance. -/
def vLoss (q x : FVec F S4x8x16x16x256 .f32) : FVec F S_ .f32 :=
  mulf (constant S_ .f32 0x3E800000#32)
    (Host.divf
      (Host.reduceAdd (mulf (subf q x) (subf q x)) (constant S_ .f32 0x00000000#32)
        reducesTo_S4x8x16x16x256_S_d0_1_2_3_4 h_S_)
      (constant S_ .f32 0x4A000000#32))

/-- The quantized array, its channel axis second again. -/
def vOut (q x : FVec F S4x8x16x16x256 .f32) : FVec F S4x256x8x16x16 .f32 :=
  transpose S4x256x8x16x16 [0, 4, 1, 2, 3] (addf x (subf q x))
    transposes_S4x8x16x16x256_S4x256x8x16x16_0_4_1_2_3

/-- How often each codebook row is taken, over the number of tokens. -/
def vProb (e : FVec F S8192x1024 .f32) : FVec F S1024 .f32 :=
  Host.divf (Host.reduceAdd e (constant S_ .f32 0x00000000#32) reducesTo_S8192x1024_S1024_d0 h_S_)
    (broadcastInDim S1024 ![] bcast_S_S1024 (constant S_ .f32 0x46000000#32))

/-- The perplexity of those frequencies. -/
def vPpl (p : FVec F S1024 .f32) : FVec F S_ .f32 :=
  Host.exp (Host.negf (Host.reduceAdd
    (mulf p (Host.log (addf p (broadcastInDim S1024 ![] bcast_S_S1024 (constant S_ .f32 0x2EDBE6FF#32)))))
    (constant S_ .f32 0x00000000#32) reducesTo_S1024_S_d0 h_S_))

/-- The numbers as a column. -/
def vCol (i : IVec S8192 32) : IVec S8192x1 32 :=
  broadcastInDim S8192x1 ![0] bcast_S8192_S8192x1_0 i

section Reads
variable (V : Valuation τ sig (Elt F))

/-- The numbers, from the contents before the line. -/
abbrev idxOf : IVec S8192 32 :=
  vIdx (vDist (vFlat (V (main_arg0 : DevRef τ sig))) (V (main_arg1 : DevRef τ sig)))

/-- The one-hot rows, from the contents before the line. -/
abbrev encOf : FVec F S8192x1024 .f32 := vEnc (idxOf V)

theorem enc_eq : after ops V (main_v17 : DevRef τ sig) = encOf V := by
  after_reads_simp
  simp -implicitDefEqProofs only [TRef.toBuf, TRef.ofBuf, cast_cast, cast_eq]
  clean_types
  rfl

theorem col_eq : after ops V (main_v38 : DevRef τ sig) = vCol (idxOf V) := by
  after_reads_simp
  rfl

theorem loss_eq : after ops V (main_v24 : DevRef τ sig)
    = vLoss (vQ (encOf V) (V (main_arg1 : DevRef τ sig))) (vX (V (main_arg0 : DevRef τ sig))) := by
  after_reads_simp
  simp -implicitDefEqProofs only [TRef.toBuf, TRef.ofBuf, cast_cast, cast_eq]
  clean_types
  rfl

theorem out_eq : after ops V (main_v37 : DevRef τ sig)
    = vOut (vQ (encOf V) (V (main_arg1 : DevRef τ sig))) (vX (V (main_arg0 : DevRef τ sig))) := by
  after_reads_simp
  simp -implicitDefEqProofs only [TRef.toBuf, TRef.ofBuf, cast_cast, cast_eq]
  clean_types
  rfl

theorem ppl_eq : after ops V (main_v36 : DevRef τ sig) = vPpl (vProb (encOf V)) := by
  after_reads_simp
  simp -implicitDefEqProofs only [TRef.toBuf, TRef.ofBuf, cast_cast, cast_eq]
  clean_types
  rfl

theorem arg0_eq : after ops V (main_arg0 : DevRef τ sig) = V (main_arg0 : DevRef τ sig) := by
  after_reads_simp

theorem arg1_eq : after ops V (main_arg1 : DevRef τ sig) = V (main_arg1 : DevRef τ sig) := by
  after_reads_simp

end Reads

theorem scopedRefs_eq : (Finset.univ.filter fun b : Ref sig .tc => b.isScoped) = ∅ := by decide
theorem scopedSems_eq : (Finset.univ.filter fun sm : SemLoc sig => sm.isScoped .tc) = ∅ := by decide

/-- Every operation touches the core's own buffers only. -/
theorem ops_sub : (ops : List (HloOp τ sig (Elt F))).Forall fun op => op.bufs ⊆ tcRefs τ sig := by
  simp

variable (m : (ℓ : Loc nD τ sig) → Buf (Elt F) ℓ) (ρ : Dev nD → PrngReg)

/-- The run: every buffer ends at the line's composed result. -/
theorem run_all : θ_run defs (onTc (τ := τ) (main (F := F))) ⟨m, fun _ => 0, ρ⟩ fun r =>
    ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ

/-- The arguments end unchanged and every counter at zero. -/
theorem frame : θ_run defs (onTc (τ := τ) (main (F := F))) ⟨m, fun _ => 0, ρ⟩ fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run defs _ _).mono (fun r h => ⟨fun c => ⟨(h c main_arg0).trans (arg0_eq _), (h c main_arg1).trans (arg1_eq _)⟩,
      sem_eq_zero_of_no_sems (by decide) r.2⟩)
    (run_all m ρ)

/-- The five results as terms of the arguments. -/
theorem run : θ_run defs (onTc (τ := τ) (main (F := F))) ⟨m, fun _ => 0, ρ⟩ fun r => ∀ c : Dev nD,
      r.2.mem ((c.tc : Thread nD τ).loc main_v24)
        = vLoss (vQ (encOf (launchContents m c)) (m ((c.tc : Thread nD τ).loc main_arg1))) (vX (m ((c.tc : Thread nD τ).loc main_arg0)))
      ∧ r.2.mem ((c.tc : Thread nD τ).loc main_v37)
        = vOut (vQ (encOf (launchContents m c)) (m ((c.tc : Thread nD τ).loc main_arg1))) (vX (m ((c.tc : Thread nD τ).loc main_arg0)))
      ∧ r.2.mem ((c.tc : Thread nD τ).loc main_v36) = vPpl (vProb (encOf (launchContents m c)))
      ∧ r.2.mem ((c.tc : Thread nD τ).loc main_v17) = encOf (launchContents m c)
      ∧ r.2.mem ((c.tc : Thread nD τ).loc main_v38) = vCol (idxOf (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v24).trans (loss_eq _), (h c main_v37).trans (out_eq _),
      (h c main_v36).trans (ppl_eq _), (h c main_v17).trans (enc_eq _), (h c main_v38).trans (col_eq _),
      (h c main_arg0).trans (arg0_eq _), (h c main_arg1).trans (arg1_eq _)⟩)
    (run_all m ρ)

end Cert.RefRun

end
end
-- ==== Proof.RefValue.lean ====
/-
  What the reference's terms hold over the extended reals, entry by entry.
-/
module

public import proofs.«01_k».proof.Proof.RefRun
public import proofs.«01_k».proof.Proof.Spec
public import Idealize.ShloMosaic.Lib.Pipeline.ValueKit

@[expose] public section

set_option maxRecDepth 16384

noncomputable section

namespace Cert.RefValue

open Cert.ReferenceIdeal Cert.ReferenceIdeal.Gen Cert.RefRun Cert.Spec Cert.Argmin
open Idealize.ShloMosaic Idealize.ShloMosaic.TcCoe

/-- Row `n` of the tokens. -/
def tok (x : FVec Ideal S8192x256 .f32) (n : Fin 8192) : Row := fun d => x (ix2 n d)

/-- The codebook of an array. -/
def cb (w : FVec Ideal S1024x256 .f32) : Book := fun k d => w (ix2 k d)

variable (x : FVec Ideal S8192x256 .f32) (w : FVec Ideal S1024x256 .f32)

theorem dist_at (n : Fin 8192) (k : Fin 1024) : vDist (F := Ideal) x w (ix2 n k) = distTo (tok x n) (cb w) k := by
  pointwise [vDist]
  rfl

theorem reduces : S8192x1024.Reduces [1] S8192 := by decide

theorem top_word (i : S_.Idx) : constant (F := Ideal) S_ .f32 0x7F800000#32 i = (⊤ : EReal) := by
  show Ideal.ofBits .f32 0x7F800000#32 = ⊤
  simp [Ideal.ofBits, Ideal.ieee]

theorem iota_at (i : S8192x1024.Idx) : iotaInDim S8192x1024 32 1 i = BitVec.ofNat 32 (i 1).val := rfl

theorem zero_word (i : S_.Idx) : constantI S_ 32 0#32 i = 0#32 := rfl

theorem lift_eq (j : S8192.Idx) (k : Fin 1024) : reduces.lift j k = ix2 (j 0) k := by
  funext a
  match a with
  | ⟨0, _⟩ => rfl
  | ⟨1, _⟩ => rfl

theorem small : 1023 < 2 ^ 31 := by norm_num

theorem size_eq : S8192x1024.size 1 = 1023 + 1 := rfl

theorem idx_unfold (d : FVec Ideal S8192x1024 .f32) : vIdx (F := Ideal) d = fun j =>
    (Host.argReduce reducer_argmin_f32_i32 d (iotaInDim S8192x1024 32 1) (constant S_ .f32 0x7F800000#32)
      (constantI S_ 32 0#32) reducesTo_S8192x1024_S8192_d1 h_S_ j).2 := rfl

theorem idx_first (d : FVec Ideal S8192x1024 .f32) (j : S8192.Idx) :
    vIdx (F := Ideal) d j
      = BitVec.ofNat 32 (firstMin fun k : Fin (1023 + 1) => (show EReal from d (reduces.lift j (k.cast size_eq.symm)))).val := by
  rw [idx_unfold]
  exact argReduce_eq reduces reducesTo_S8192x1024_S8192_d1 d (iotaInDim S8192x1024 32 1)
    (constant S_ .f32 0x7F800000#32) (constantI S_ 32 0#32) h_S_ j size_eq small iota_at top_word zero_word

/-- The number taken for a token is that of its nearest codebook row. -/
theorem idx_at (j : S8192.Idx) : vIdx (F := Ideal) (vDist x w) j = BitVec.ofNat 32 (near (tok x (j 0)) (cb w)).val := by
  rw [idx_first]
  unfold near
  refine congrArg (fun f => BitVec.ofNat 32 (firstMin (n := 1023) f).val) (funext fun k => ?_)
  exact (congrArg (vDist x w) (lift_eq j k)).trans (dist_at x w (j 0) k)

/-- The bit of an equality of numbers, converted. -/
theorem bit_at (a b : Fin 1024) :
    FloatOps.uitofp (F := Ideal) .f32 (IntOp.cmpi .eq (BitVec.ofNat 32 a.val) (BitVec.ofNat 32 b.val))
      = if a = b then (1 : EReal) else 0 := by
  show (((BitVec.ofBool (BitVec.ofNat 32 a.val == BitVec.ofNat 32 b.val)).toNat : ℝ) : EReal) = _
  have e : (BitVec.ofNat 32 a.val == BitVec.ofNat 32 b.val) = decide (a = b) := by
    have ha := a.isLt
    have hb := b.isLt
    rw [Bool.eq_iff_iff, beq_iff_eq, decide_eq_true_eq, ← BitVec.toNat_inj, Fin.ext_iff]
    simp only [BitVec.toNat_ofNat]
    omega
  rw [e]
  by_cases h : a = b <;> simp [h]

theorem enc_point (i : IVec S8192 32) (j : S8192x1024.Idx) :
    vEnc (F := Ideal) i j = FloatOps.uitofp (F := Ideal) .f32 (IntOp.cmpi .eq (i (ix1 (j 0))) (BitVec.ofNat 32 (j 1).val)) := by
  pointwise [vEnc]

/-- The one-hot rows. -/
theorem enc_at (j : S8192x1024.Idx) :
    vEnc (F := Ideal) (vIdx (vDist x w)) j = hot (tok x (j 0)) (cb w) (j 1) := by
  rw [enc_point, idx_at]
  exact bit_at (near (tok x (j 0)) (cb w)) (j 1)

/-- The rows of the codebook that are taken. -/
def taken (e : FVec Ideal S8192x1024 .f32) : FVec Ideal S8192x256 .f32 :=
  Host.dotGeneral dot_S8192x1024_S1024x256_S8192x256_1_0_0_1_n_n none e w

theorem taken_point (e : FVec Ideal S8192x1024 .f32) (j : S8192x256.Idx) :
    taken w e j = ∑ k : Fin 1024, e (ix2 (j 0) k) * w (ix2 k (j 1)) := by
  pointwise [taken]

theorem taken_at (j : S8192x256.Idx) :
    taken w (vEnc (vIdx (vDist x w))) j = pick (tok x (j 0)) (cb w) (j 1) := by
  rw [taken_point]
  unfold pick
  refine Finset.sum_congr rfl fun k _ => ?_
  rw [enc_at]
  rfl

theorem col_point (i : IVec S8192 32) (j : S8192x1.Idx) : vCol i j = i (ix1 (j 0)) := by
  pointwise [vCol]

/-- The numbers as a column. -/
theorem col_at (j : S8192x1.Idx) :
    vCol (vIdx (F := Ideal) (vDist x w)) j = BitVec.ofNat 32 (near (tok x (j 0)) (cb w)).val := by
  rw [col_point, idx_at]
  rfl

/-- The perplexity is that of the counts. -/
theorem ppl_at (e : FVec Ideal S8192x1024 .f32) (j : S_.Idx) :
    vPpl (F := Ideal) (vProb e) j = perplexity fun k => ∑ n : Fin 8192, e (ix2 n k) := by
  pointwise [vPpl, vProb]
  rfl

variable (a : FVec Ideal S4x256x8x16x16 .f32)

/-- The argument with its channel axis last is the tokens laid out again. -/
theorem x_eq : vX (F := Ideal) a = shapeCast S4x8x16x16x256 (vFlat (F := Ideal) a) shapeCasts_S8192x256_S4x8x16x16x256 := by
  unfold vFlat
  rw [shapeCast_shapeCast]

theorem q_eq (e : FVec Ideal S8192x1024 .f32) : vQ (F := Ideal) e w
    = shapeCast S4x8x16x16x256 (taken w e) shapeCasts_S8192x256_S4x8x16x16x256 := rfl

/-- The loss is that of the squared errors of all tokens. -/
theorem loss_at (q x : FVec Ideal S8192x256 .f32) (j : S_.Idx) :
    vLoss (F := Ideal) (shapeCast S4x8x16x16x256 q shapeCasts_S8192x256_S4x8x16x16x256)
        (shapeCast S4x8x16x16x256 x shapeCasts_S8192x256_S4x8x16x16x256) j
      = loss (∑ n : Fin 8192, ∑ d : Fin 256, (q (ix2 n d) - x (ix2 n d)) * (q (ix2 n d) - x (ix2 n d))) := by
  have e : ∀ z : FVec Ideal S4x8x16x16x256 .f32, Host.reduceAdd z (constant S_ .f32 0x00000000#32)
      reducesTo_S4x8x16x16x256_S_d0_1_2_3_4 h_S_ j = ∑ i, (show EReal from z i) := by
    intro z
    refine (Ideal.hostReduceAdd_total _ (fun b => b.elim0) z _ j).trans ?_
    exact (congrArg (fun a : EReal => a + _) Ideal.ofBits_zero_f32).trans (zero_add _)
  let f : S8192x256.Idx → EReal := fun i => (q i - x i) * (q i - x i)
  have s : ∑ i : S4x8x16x16x256.Idx, f (Shape.reshapeEquiv shapeCasts_S8192x256_S4x8x16x16x256 i)
      = ∑ n : Fin 8192, ∑ d : Fin 256, f (ix2 n d) :=
    (Equiv.sum_comp (Shape.reshapeEquiv shapeCasts_S8192x256_S4x8x16x16x256) f).trans (sum_idx2 f)
  exact congrArg loss ((e _).trans s)

/-- The quantized array, entry by entry of its rows. -/
theorem out_eq (q x : FVec Ideal S8192x256 .f32) :
    vOut (F := Ideal) (shapeCast S4x8x16x16x256 q shapeCasts_S8192x256_S4x8x16x16x256)
        (shapeCast S4x8x16x16x256 x shapeCasts_S8192x256_S4x8x16x16x256)
      = transpose S4x256x8x16x16 [0, 4, 1, 2, 3]
          (shapeCast S4x8x16x16x256 (fun i => ((x i : EReal) + (q i - x i) : EReal)) shapeCasts_S8192x256_S4x8x16x16x256)
          transposes_S4x8x16x16x256_S4x256x8x16x16_0_4_1_2_3 := rfl

end Cert.RefValue
-- ==== Proof.Equation.lean ====
/-
  The equation: on every argument and every codebook the reference's five terms are what the kernel's five arrays hold.
-/
module

public import proofs.«01_k».proof.Proof.KernelRun
public import proofs.«01_k».proof.Proof.RefValue

@[expose] public section

set_option maxRecDepth 16384

noncomputable section

namespace Cert.Equation

open Cert.KernelIdeal Cert.KernelIdeal.Gen Cert.Spec Cert.KernelBlock Cert.KernelArrays Cert.KernelRun
open Cert.RefRun Cert.RefValue
open Idealize.ShloMosaic Idealize.ShloMosaic.TcCoe

variable (a : FVec Ideal S4x256x8x16x16 .f32) (w : FVec Ideal S1024x256 .f32)

/-- Both programs lay the argument out as the same rows. -/
theorem flat_eq : vFlat (F := Ideal) a = flat a := rfl

/-- The one-hot rows agree. -/
theorem hots_eq : vEnc (F := Ideal) (vIdx (vDist (vFlat a) w)) = hots (flat a) w :=
  funext fun j => enc_at (vFlat a) w j

theorem taken_eq (i : S8192x256.Idx) :
    taken w (vEnc (vIdx (vDist (vFlat a) w))) i = pick (rowOf (flat a) (i 0)) (Payload.book w) (i 1) :=
  taken_at (vFlat a) w i

/-- The losses agree. -/
theorem loss_eq : vLoss (F := Ideal) (vQ (vEnc (vIdx (vDist (vFlat a) w))) w) (vX a)
    = fun _ => loss (total (flat a) w) := by
  funext j
  rw [q_eq, x_eq, loss_at]
  refine congrArg loss (Finset.sum_congr rfl fun n _ => Finset.sum_congr rfl fun d _ => ?_)
  rw [taken_eq]
  rfl

/-- The quantized arrays agree. -/
theorem out_eq : vOut (F := Ideal) (vQ (vEnc (vIdx (vDist (vFlat a) w))) w) (vX a) = unflat (moved (flat a) w) := by
  rw [q_eq, x_eq, RefValue.out_eq]
  simp only [taken_eq]
  rfl

/-- The perplexities agree. -/
theorem ppl_eq : vPpl (F := Ideal) (vProb (vEnc (vIdx (vDist (vFlat a) w)))) = fun _ => perplexity (picked (flat a) w) := by
  funext j
  rw [ppl_at, hots_eq]
  rfl

theorem numbers_at (x : FVec Ideal S8192x256 .f32) (j : S8192x1.Idx) :
    shapeCast S8192x1 (numbers x w) shapeCasts_S4x1x2048_S8192x1 j
      = BitVec.ofNat 32 (near (rowOf x (j 0)) (Payload.book w)).val := by
  pointwise [numbers]
  refine congrArg (fun n => BitVec.ofNat 32 (near (rowOf x n) (Payload.book w)).val) (Fin.ext ?_)
  exact Nat.div_add_mod' _ _

/-- The columns of numbers agree. -/
theorem col_eq : vCol (vIdx (F := Ideal) (vDist (vFlat a) w))
    = shapeCast S8192x1 (numbers (flat a) w) shapeCasts_S4x1x2048_S8192x1 := by
  funext j
  rw [col_at, numbers_at]
  rfl

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_no_tie
public import proofs.«01_k».proof.Proof.Equation
public import Idealize.ShloMosaic.Adequacy
public import Idealize.ShloMosaic.Init

@[expose] public section

noncomputable section

namespace Cert.Proof

open Idealize.ShloMosaic Idealize.SL.Sem Cert.Kernel

/-- From memories that agree on the arguments, the kernel and the reference end with the same five results over the
    extended reals. -/
theorem algebraic : Cert.algebraic_KernelIdeal_ReferenceIdeal := by
  intro m g m' g' _ hagree
  refine ⟨_, _, _, _, _, Cert.KernelRun.run m g, ?_⟩
  refine (θ_run _ _ _).mono (fun r h c => ?_) (Cert.RefRun.run m' g')
  obtain ⟨e0, e1⟩ := hagree c
  obtain ⟨h0, h1, h2, h3, h4, h5, h6⟩ := h c
  have ei : Cert.RefRun.idxOf (Idealize.ShloMosaic.StableHlo.launchContents m' c)
      = Cert.RefRun.vIdx (F := Ideal) (Cert.RefRun.vDist
          (Cert.RefRun.vFlat (F := Ideal) (m ((c.tc : Thread Cert.KernelIdeal.nD Cert.KernelIdeal.τ).loc Cert.KernelIdeal.main_arg0)))
          (m ((c.tc : Thread Cert.KernelIdeal.nD Cert.KernelIdeal.τ).loc Cert.KernelIdeal.main_arg1))) := by
    rw [← e0, ← e1]
  simp only [Cert.RefRun.encOf, ei, e0, e1] at h0 h1 h2 h3 h4
  exact ⟨h0.trans (Cert.Equation.loss_eq _ _), h1.trans (Cert.Equation.out_eq _ _), h2.trans (Cert.Equation.ppl_eq _ _),
    h3.trans (Cert.Equation.hots_eq _ _), h4.trans (Cert.Equation.col_eq _ _), h5, h6⟩

/-- All the claims: the programs' frames, with and without the precondition, and the equality of the results. -/
theorem claim : Cert.Claim :=
  ⟨Cert.Kernel.Gen.facts, Cert.KernelIdeal.Gen.facts, Cert.ReferenceIdeal.Gen.facts, Cert.Pre_no_tie.Gen.facts,
    fun m ρ _ => Cert.Kernel.Gen.frame m ρ, fun m ρ _ => Cert.Kernel.Gen.frame m ρ, fun m ρ _ => Cert.KernelIdeal.Gen.frame m ρ,
    fun m ρ _ => Cert.RefRun.frame m ρ, fun m ρ _ => Cert.RefRun.frame m ρ, trivial, algebraic⟩

end Cert.Proof

end
